-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv20" .f32 0x3D4CCCCD#32 ((1 / 20 : ℝ) : EReal)
  ∧ IdealRules.named_const.Statement Cert.KernelIdeal.κ "neg_mean" .f32 0xBA088889#32 ((-1 / 1920 : ℝ) : EReal)
  ∧ IdealRules.named_const.Statement Cert.KernelIdeal.κ "mean" .f32 0x3A088889#32 ((1 / 1920 : ℝ) : EReal)
  ∧ IdealRules.named_const.Statement Cert.KernelIdeal.κ "mean2" .f32 0x37DA740E#32 ((1 / 38400 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v424) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x96x56x56 : Shape := ⟨4, ![1, 96, 56, 56]⟩
abbrev S48x100x1x1 : Shape := ⟨4, ![48, 100, 1, 1]⟩
abbrev S48 : Shape := ⟨1, ![48]⟩
abbrev S24x48x1x1 : Shape := ⟨4, ![24, 48, 1, 1]⟩
abbrev S24 : Shape := ⟨1, ![24]⟩
abbrev S48x24x3x3 : Shape := ⟨4, ![48, 24, 3, 3]⟩
abbrev S96x96x1x1 : Shape := ⟨4, ![96, 96, 1, 1]⟩
abbrev S96 : Shape := ⟨1, ![96]⟩
abbrev S96x56x56 : Shape := ⟨3, ![96, 56, 56]⟩
abbrev S1x56x56 : Shape := ⟨3, ![1, 56, 56]⟩
abbrev S1x0x56x56 : Shape := ⟨4, ![1, 0, 56, 56]⟩
abbrev S0x56x56 : Shape := ⟨3, ![0, 56, 56]⟩
abbrev S96x1x56 : Shape := ⟨3, ![96, 1, 56]⟩
abbrev S96x1x1x56 : Shape := ⟨4, ![96, 1, 1, 56]⟩
abbrev S96x58x56 : Shape := ⟨3, ![96, 58, 56]⟩
abbrev S96x58x1 : Shape := ⟨3, ![96, 58, 1]⟩
abbrev S96x58x1x1 : Shape := ⟨4, ![96, 58, 1, 1]⟩
abbrev S96x58x58 : Shape := ⟨3, ![96, 58, 58]⟩
abbrev S96x3364 : Shape := ⟨2, ![96, 3364]⟩
abbrev S_ : Shape := ⟨0, ![]⟩
abbrev S96x3368 : Shape := ⟨2, ![96, 3368]⟩
abbrev S48x100 : Shape := ⟨2, ![48, 100]⟩
abbrev S96x96 : Shape := ⟨2, ![96, 96]⟩
abbrev S48x3x3x24 : Shape := ⟨4, ![48, 3, 3, 24]⟩
abbrev S48x216 : Shape := ⟨2, ![48, 216]⟩
abbrev S48x96 : Shape := ⟨2, ![48, 96]⟩
abbrev S48x4 : Shape := ⟨2, ![48, 4]⟩
abbrev S48x1 : Shape := ⟨2, ![48, 1]⟩
abbrev S24x48 : Shape := ⟨2, ![24, 48]⟩
abbrev S24x1 : Shape := ⟨2, ![24, 1]⟩
abbrev S96x48 : Shape := ⟨2, ![96, 48]⟩
abbrev S96x1 : Shape := ⟨2, ![96, 1]⟩
abbrev S96x3248 : Shape := ⟨2, ![96, 3248]⟩
abbrev S8x3368 : Shape := ⟨2, ![8, 3368]⟩
abbrev S72x3248 : Shape := ⟨2, ![72, 3248]⟩
abbrev S4x3248 : Shape := ⟨2, ![4, 3248]⟩
abbrev S24x3366 : Shape := ⟨2, ![24, 3366]⟩
abbrev S216x3248 : Shape := ⟨2, ![216, 3248]⟩
abbrev S8x3248 : Shape := ⟨2, ![8, 3248]⟩
abbrev S8x512 : Shape := ⟨2, ![8, 512]⟩
abbrev S512 : Shape := ⟨1, ![512]⟩
abbrev S1x512 : Shape := ⟨2, ![1, 512]⟩
abbrev S4x512 : Shape := ⟨2, ![4, 512]⟩
abbrev S8x176 : Shape := ⟨2, ![8, 176]⟩
abbrev S176 : Shape := ⟨1, ![176]⟩
abbrev S1x176 : Shape := ⟨2, ![1, 176]⟩
abbrev S4x176 : Shape := ⟨2, ![4, 176]⟩
abbrev S4x1 : Shape := ⟨2, ![4, 1]⟩
abbrev S48x3248 : Shape := ⟨2, ![48, 3248]⟩
abbrev S24x3248 : Shape := ⟨2, ![24, 3248]⟩
abbrev S1x3248 : Shape := ⟨2, ![1, 3248]⟩
abbrev S96x56x58 : Shape := ⟨3, ![96, 56, 58]⟩

abbrev nBuf : Space → Nat
  | .hbm => 67
  | .vmem => 26
  | .smem => 0
  | _ => 0

abbrev bufTy : (tb : Table) → Fin (tcTables nBuf tb) → BufTy
  | .hbm, ⟨0, _⟩ => ⟨S1x96x56x56, .f32⟩
  | .hbm, ⟨1, _⟩ => ⟨S48x100x1x1, .f32⟩
  | .hbm, ⟨2, _⟩ => ⟨S48, .f32⟩
  | .hbm, ⟨3, _⟩ => ⟨S48, .f32⟩
  | .hbm, ⟨4, _⟩ => ⟨S48x100x1x1, .f32⟩
  | .hbm, ⟨5, _⟩ => ⟨S48, .f32⟩
  | .hbm, ⟨6, _⟩ => ⟨S48, .f32⟩
  | .hbm, ⟨7, _⟩ => ⟨S24x48x1x1, .f32⟩
  | .hbm, ⟨8, _⟩ => ⟨S24, .f32⟩
  | .hbm, ⟨9, _⟩ => ⟨S24, .f32⟩
  | .hbm, ⟨10, _⟩ => ⟨S48x24x3x3, .f32⟩
  | .hbm, ⟨11, _⟩ => ⟨S48, .f32⟩
  | .hbm, ⟨12, _⟩ => ⟨S48, .f32⟩
  | .hbm, ⟨13, _⟩ => ⟨S96x96x1x1, .f32⟩
  | .hbm, ⟨14, _⟩ => ⟨S96, .f32⟩
  | .hbm, ⟨15, _⟩ => ⟨S96, .f32⟩
  | .hbm, ⟨16, _⟩ => ⟨S96x56x56, .f32⟩
  | .hbm, ⟨17, _⟩ => ⟨S1x56x56, .f32⟩
  | .hbm, ⟨18, _⟩ => ⟨S1x0x56x56, .f32⟩
  | .hbm, ⟨19, _⟩ => ⟨S0x56x56, .f32⟩
  | .hbm, ⟨20, _⟩ => ⟨S1x56x56, .f32⟩
  | .hbm, ⟨21, _⟩ => ⟨S1x0x56x56, .f32⟩
  | .hbm, ⟨22, _⟩ => ⟨S0x56x56, .f32⟩
  | .hbm, ⟨23, _⟩ => ⟨S96x56x56, .f32⟩
  | .hbm, ⟨24, _⟩ => ⟨S96x1x56, .f32⟩
  | .hbm, ⟨25, _⟩ => ⟨S96x1x1x56, .f32⟩
  | .hbm, ⟨26, _⟩ => ⟨S96x1x56, .f32⟩
  | .hbm, ⟨27, _⟩ => ⟨S96x1x56, .f32⟩
  | .hbm, ⟨28, _⟩ => ⟨S96x1x1x56, .f32⟩
  | .hbm, ⟨29, _⟩ => ⟨S96x1x56, .f32⟩
  | .hbm, ⟨30, _⟩ => ⟨S96x58x56, .f32⟩
  | .hbm, ⟨31, _⟩ => ⟨S96x58x1, .f32⟩
  | .hbm, ⟨32, _⟩ => ⟨S96x58x1x1, .f32⟩
  | .hbm, ⟨33, _⟩ => ⟨S96x58x1, .f32⟩
  | .hbm, ⟨34, _⟩ => ⟨S96x58x1, .f32⟩
  | .hbm, ⟨35, _⟩ => ⟨S96x58x1x1, .f32⟩
  | .hbm, ⟨36, _⟩ => ⟨S96x58x1, .f32⟩
  | .hbm, ⟨37, _⟩ => ⟨S96x58x58, .f32⟩
  | .hbm, ⟨38, _⟩ => ⟨S96x3364, .f32⟩
  | .hbm, ⟨39, _⟩ => ⟨S_, .f32⟩
  | .hbm, ⟨40, _⟩ => ⟨S96x3368, .f32⟩
  | .hbm, ⟨41, _⟩ => ⟨S48x100, .f32⟩
  | .hbm, ⟨42, _⟩ => ⟨S48x100, .f32⟩
  | .hbm, ⟨43, _⟩ => ⟨S96x96, .f32⟩
  | .hbm, ⟨44, _⟩ => ⟨S48x3x3x24, .f32⟩
  | .hbm, ⟨45, _⟩ => ⟨S48x216, .f32⟩
  | .hbm, ⟨46, _⟩ => ⟨S48x96, .f32⟩
  | .hbm, ⟨47, _⟩ => ⟨S48x4, .f32⟩
  | .hbm, ⟨48, _⟩ => ⟨S48x1, .f32⟩
  | .hbm, ⟨49, _⟩ => ⟨S48x1, .f32⟩
  | .hbm, ⟨50, _⟩ => ⟨S48x96, .f32⟩
  | .hbm, ⟨51, _⟩ => ⟨S48x4, .f32⟩
  | .hbm, ⟨52, _⟩ => ⟨S48x1, .f32⟩
  | .hbm, ⟨53, _⟩ => ⟨S48x1, .f32⟩
  | .hbm, ⟨54, _⟩ => ⟨S24x48, .f32⟩
  | .hbm, ⟨55, _⟩ => ⟨S24x1, .f32⟩
  | .hbm, ⟨56, _⟩ => ⟨S24x1, .f32⟩
  | .hbm, ⟨57, _⟩ => ⟨S48x1, .f32⟩
  | .hbm, ⟨58, _⟩ => ⟨S48x1, .f32⟩
  | .hbm, ⟨59, _⟩ => ⟨S96x48, .f32⟩
  | .hbm, ⟨60, _⟩ => ⟨S96x48, .f32⟩
  | .hbm, ⟨61, _⟩ => ⟨S96x1, .f32⟩
  | .hbm, ⟨62, _⟩ => ⟨S96x1, .f32⟩
  | .hbm, ⟨63, _⟩ => ⟨S96x3248, .f32⟩
  | .hbm, ⟨64, _⟩ => ⟨S96x56x58, .f32⟩
  | .hbm, ⟨65, _⟩ => ⟨S96x56x56, .f32⟩
  | .hbm, ⟨66, _⟩ => ⟨S1x96x56x56, .f32⟩
  | .local _ .vmem, ⟨0, _⟩ => ⟨S8x3368, .f32⟩
  | .local _ .vmem, ⟨1, _⟩ => ⟨S8x3368, .f32⟩
  | .local _ .vmem, ⟨2, _⟩ => ⟨S96x3368, .f32⟩
  | .local _ .vmem, ⟨3, _⟩ => ⟨S48x96, .f32⟩
  | .local _ .vmem, ⟨4, _⟩ => ⟨S48x4, .f32⟩
  | .local _ .vmem, ⟨5, _⟩ => ⟨S48x1, .f32⟩
  | .local _ .vmem, ⟨6, _⟩ => ⟨S48x1, .f32⟩
  | .local _ .vmem, ⟨7, _⟩ => ⟨S48x96, .f32⟩
  | .local _ .vmem, ⟨8, _⟩ => ⟨S48x4, .f32⟩
  | .local _ .vmem, ⟨9, _⟩ => ⟨S48x1, .f32⟩
  | .local _ .vmem, ⟨10, _⟩ => ⟨S48x1, .f32⟩
  | .local _ .vmem, ⟨11, _⟩ => ⟨S24x48, .f32⟩
  | .local _ .vmem, ⟨12, _⟩ => ⟨S24x1, .f32⟩
  | .local _ .vmem, ⟨13, _⟩ => ⟨S24x1, .f32⟩
  | .local _ .vmem, ⟨14, _⟩ => ⟨S48x216, .f32⟩
  | .local _ .vmem, ⟨15, _⟩ => ⟨S48x1, .f32⟩
  | .local _ .vmem, ⟨16, _⟩ => ⟨S48x1, .f32⟩
  | .local _ .vmem, ⟨17, _⟩ => ⟨S96x48, .f32⟩
  | .local _ .vmem, ⟨18, _⟩ => ⟨S96x48, .f32⟩
  | .local _ .vmem, ⟨19, _⟩ => ⟨S96x1, .f32⟩
  | .local _ .vmem, ⟨20, _⟩ => ⟨S96x1, .f32⟩
  | .local _ .vmem, ⟨21, _⟩ => ⟨S96x3248, .f32⟩
  | .local _ .vmem, ⟨22, _⟩ => ⟨S72x3248, .bf16⟩
  | .local _ .vmem, ⟨23, _⟩ => ⟨S4x3248, .f32⟩
  | .local _ .vmem, ⟨24, _⟩ => ⟨S24x3366, .f32⟩
  | .local _ .vmem, ⟨25, _⟩ => ⟨S216x3248, .f32⟩
  | _, _ => ⟨S1x96x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21

abbrev nD : Nat := 1
abbrev τ : Topo := Topo.v7x

variable {F : FTy → Type} [FloatOps F]

abbrev grid0 : Pipeline.Grid := ⟨1, ![13], ![false]⟩

def k0_cond3 (i : grid0.Coords) : BitVec 1 :=
  let arg0 : BitVec 32 := BitVec.ofNat 32 (i 0).val
  let c12_i32_0 : BitVec 32 := 12#32
  let v3 : BitVec 1 := Scalar.cmpi .eq arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3368 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x3368 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S24x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S24x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S24x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S48x216 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S48x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S48x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S96x48 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S96x48 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S96x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S96x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S96x3248 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "inv20" => some ((1 / 20 : ℝ) : EReal)
  | "mean" => some ((1 / 1920 : ℝ) : EReal)
  | "mean2" => some ((1 / 38400 : ℝ) : EReal)
  | "neg_mean" => some ((-1 / 1920 : ℝ) : EReal)
  | _ => none
-- ==== ReferenceIdeal.lean ====
abbrev S1x96x56x56 : Shape := ⟨4, ![1, 96, 56, 56]⟩
abbrev S48x100x1x1 : Shape := ⟨4, ![48, 100, 1, 1]⟩
abbrev S48 : Shape := ⟨1, ![48]⟩
abbrev S24x48x1x1 : Shape := ⟨4, ![24, 48, 1, 1]⟩
abbrev S24 : Shape := ⟨1, ![24]⟩
abbrev S48x24x3x3 : Shape := ⟨4, ![48, 24, 3, 3]⟩
abbrev S96x96x1x1 : Shape := ⟨4, ![96, 96, 1, 1]⟩
abbrev S96 : Shape := ⟨1, ![96]⟩
abbrev S96x56x56 : Shape := ⟨3, ![96, 56, 56]⟩
abbrev S1x56x56 : Shape := ⟨3, ![1, 56, 56]⟩
abbrev S1x0x56x56 : Shape := ⟨4, ![1, 0, 56, 56]⟩
abbrev S0x56x56 : Shape := ⟨3, ![0, 56, 56]⟩
abbrev S96x1x56 : Shape := ⟨3, ![96, 1, 56]⟩
abbrev S96x1x1x56 : Shape := ⟨4, ![96, 1, 1, 56]⟩
abbrev S96x58x56 : Shape := ⟨3, ![96, 58, 56]⟩
abbrev S96x58x1 : Shape := ⟨3, ![96, 58, 1]⟩
abbrev S96x58x1x1 : Shape := ⟨4, ![96, 58, 1, 1]⟩
abbrev S96x58x58 : Shape := ⟨3, ![96, 58, 58]⟩
abbrev S_ : Shape := ⟨0, ![]⟩
abbrev S301056 : Shape := ⟨1, ![301056]⟩
abbrev S19267584 : Shape := ⟨1, ![19267584]⟩
abbrev S301056x1 : Shape := ⟨2, ![301056, 1]⟩
abbrev S96x56x56x8x8 : Shape := ⟨5, ![96, 56, 56, 8, 8]⟩
abbrev S96x56x56x8 : Shape := ⟨4, ![96, 56, 56, 8]⟩
abbrev S96x56x56x1x1 : Shape := ⟨5, ![96, 56, 56, 1, 1]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x1x1x8x8 : Shape := ⟨5, ![1, 1, 1, 8, 8]⟩
abbrev S96x1x56x56 : Shape := ⟨4, ![96, 1, 56, 56]⟩
abbrev S96x4x56x56 : Shape := ⟨4, ![96, 4, 56, 56]⟩
abbrev S4x56x56 : Shape := ⟨3, ![4, 56, 56]⟩
abbrev S100x56x56 : Shape := ⟨3, ![100, 56, 56]⟩
abbrev S48x100 : Shape := ⟨2, ![48, 100]⟩
abbrev S48x56x56 : Shape := ⟨3, ![48, 56, 56]⟩
abbrev S48x1x1 : Shape := ⟨3, ![48, 1, 1]⟩
abbrev S24x48 : Shape := ⟨2, ![24, 48]⟩
abbrev S24x56x56 : Shape := ⟨3, ![24, 56, 56]⟩
abbrev S24x1x1 : Shape := ⟨3, ![24, 1, 1]⟩
abbrev S24x58x58 : Shape := ⟨3, ![24, 58, 58]⟩
abbrev S48x24x1x1 : Shape := ⟨4, ![48, 24, 1, 1]⟩
abbrev S48x24 : Shape := ⟨2, ![48, 24]⟩
abbrev S96x96 : Shape := ⟨2, ![96, 96]⟩
abbrev S96x1x1 : Shape := ⟨3, ![96, 1, 1]⟩

abbrev nBuf : Space → Nat
  | .hbm => 518
  | .vmem => 0
  | .smem => 0
  | _ => 0

abbrev hbmTy0_0 (i : Nat) : BufTy := match i % 128 with
  | 0 => ⟨S1x96x56x56, .f32⟩
  | 1 => ⟨S48x100x1x1, .f32⟩
  | 2 => ⟨S48, .f32⟩
  | 3 => ⟨S48, .f32⟩
  | 4 => ⟨S48x100x1x1, .f32⟩
  | 5 => ⟨S48, .f32⟩
  | 6 => ⟨S48, .f32⟩
  | 7 => ⟨S24x48x1x1, .f32⟩
  | 8 => ⟨S24, .f32⟩
  | 9 => ⟨S24, .f32⟩
  | 10 => ⟨S48x24x3x3, .f32⟩
  | 11 => ⟨S48, .f32⟩
  | 12 => ⟨S48, .f32⟩
  | 13 => ⟨S96x96x1x1, .f32⟩
  | 14 => ⟨S96, .f32⟩
  | 15 => ⟨S96, .f32⟩
  | 16 => ⟨S96x56x56, .f32⟩
  | 17 => ⟨S1x56x56, .f32⟩
  | 18 => ⟨S1x0x56x56, .f32⟩
  | 19 => ⟨S0x56x56, .f32⟩
  | 20 => ⟨S1x56x56, .f32⟩
  | 21 => ⟨S1x0x56x56, .f32⟩
  | 22 => ⟨S0x56x56, .f32⟩
  | 23 => ⟨S96x56x56, .f32⟩
  | 24 => ⟨S96x1x56, .f32⟩
  | 25 => ⟨S96x1x1x56, .f32⟩
  | 26 => ⟨S96x1x56, .f32⟩
  | 27 => ⟨S96x1x56, .f32⟩
  | 28 => ⟨S96x1x1x56, .f32⟩
  | 29 => ⟨S96x1x56, .f32⟩
  | 30 => ⟨S96x58x56, .f32⟩
  | 31 => ⟨S96x58x1, .f32⟩
  | 32 => ⟨S96x58x1x1, .f32⟩
  | 33 => ⟨S96x58x1, .f32⟩
  | 34 => ⟨S96x58x1, .f32⟩
  | 35 => ⟨S96x58x1x1, .f32⟩
  | 36 => ⟨S96x58x1, .f32⟩
  | 37 => ⟨S96x58x58, .f32⟩
  | 38 => ⟨S_, .f32⟩
  | 39 => ⟨S96x58x58, .f32⟩
  | 40 => ⟨S96x58x58, .f32⟩
  | 41 => ⟨S96x58x58, .i32⟩
  | 42 => ⟨S_, .i32⟩
  | 43 => ⟨S96x58x58, .i32⟩
  | 44 => ⟨S96x58x58, .i32⟩
  | 45 => ⟨S_, .i32⟩
  | 46 => ⟨S96x58x58, .i32⟩
  | 47 => ⟨S96x58x58, .i32⟩
  | 48 => ⟨S301056, .i32⟩
  | 49 => ⟨S96x56x56, .i32⟩
  | 50 => ⟨S_, .i32⟩
  | 51 => ⟨S96x56x56, .i32⟩
  | 52 => ⟨S96x56x56, .i32⟩
  | 53 => ⟨S_, .f32⟩
  | 54 => ⟨S19267584, .f32⟩
  | 55 => ⟨S96x56x56, .i32⟩
  | 56 => ⟨S96x56x56, .i32⟩
  | 57 => ⟨S_, .i32⟩
  | 58 => ⟨S96x56x56, .i32⟩
  | 59 => ⟨S96x56x56, .i32⟩
  | 60 => ⟨S96x56x56, .i32⟩
  | 61 => ⟨S96x56x56, .i32⟩
  | 62 => ⟨S301056, .i32⟩
  | 63 => ⟨S301056x1, .i32⟩
  | 64 => ⟨S_, .f32⟩
  | 65 => ⟨S301056, .f32⟩
  | 66 => ⟨S19267584, .f32⟩
  | 67 => ⟨S96x56x56, .i32⟩
  | 68 => ⟨S96x56x56, .i32⟩
  | 69 => ⟨S_, .i32⟩
  | 70 => ⟨S96x56x56, .i32⟩
  | 71 => ⟨S96x56x56, .i32⟩
  | 72 => ⟨S96x56x56, .i32⟩
  | 73 => ⟨S96x56x56, .i32⟩
  | 74 => ⟨S301056, .i32⟩
  | 75 => ⟨S301056x1, .i32⟩
  | 76 => ⟨S_, .f32⟩
  | 77 => ⟨S301056, .f32⟩
  | 78 => ⟨S19267584, .f32⟩
  | 79 => ⟨S96x56x56, .i32⟩
  | 80 => ⟨S96x56x56, .i32⟩
  | 81 => ⟨S_, .i32⟩
  | 82 => ⟨S96x56x56, .i32⟩
  | 83 => ⟨S96x56x56, .i32⟩
  | 84 => ⟨S96x56x56, .i32⟩
  | 85 => ⟨S96x56x56, .i32⟩
  | 86 => ⟨S301056, .i32⟩
  | 87 => ⟨S301056x1, .i32⟩
  | 88 => ⟨S_, .f32⟩
  | 89 => ⟨S301056, .f32⟩
  | 90 => ⟨S19267584, .f32⟩
  | 91 => ⟨S96x56x56, .i32⟩
  | 92 => ⟨S96x56x56, .i32⟩
  | 93 => ⟨S_, .i32⟩
  | 94 => ⟨S96x56x56, .i32⟩
  | 95 => ⟨S96x56x56, .i32⟩
  | 96 => ⟨S96x56x56, .i32⟩
  | 97 => ⟨S96x56x56, .i32⟩
  | 98 => ⟨S301056, .i32⟩
  | 99 => ⟨S301056x1, .i32⟩
  | 100 => ⟨S_, .f32⟩
  | 101 => ⟨S301056, .f32⟩
  | 102 => ⟨S19267584, .f32⟩
  | 103 => ⟨S96x56x56, .i32⟩
  | 104 => ⟨S96x56x56, .i32⟩
  | 105 => ⟨S_, .i32⟩
  | 106 => ⟨S96x56x56, .i32⟩
  | 107 => ⟨S96x56x56, .i32⟩
  | 108 => ⟨S96x56x56, .i32⟩
  | 109 => ⟨S96x56x56, .i32⟩
  | 110 => ⟨S301056, .i32⟩
  | 111 => ⟨S301056x1, .i32⟩
  | 112 => ⟨S_, .f32⟩
  | 113 => ⟨S301056, .f32⟩
  | 114 => ⟨S19267584, .f32⟩
  | 115 => ⟨S96x56x56, .i32⟩
  | 116 => ⟨S96x56x56, .i32⟩
  | 117 => ⟨S_, .i32⟩
  | 118 => ⟨S96x56x56, .i32⟩
  | 119 => ⟨S96x56x56, .i32⟩
  | 120 => ⟨S96x56x56, .i32⟩
  | 121 => ⟨S96x56x56, .i32⟩
  | 122 => ⟨S301056, .i32⟩
  | 123 => ⟨S301056x1, .i32⟩
  | 124 => ⟨S_, .f32⟩
  | 125 => ⟨S301056, .f32⟩
  | 126 => ⟨S19267584, .f32⟩
  | 127 => ⟨S96x56x56, .i32⟩
  | _ => ⟨S1x96x56x56, .f32⟩

abbrev hbmTy0_1 (i : Nat) : BufTy := match i % 128 with
  | 0 => ⟨S96x56x56, .i32⟩
  | 1 => ⟨S_, .i32⟩
  | 2 => ⟨S96x56x56, .i32⟩
  | 3 => ⟨S96x56x56, .i32⟩
  | 4 => ⟨S96x56x56, .i32⟩
  | 5 => ⟨S96x56x56, .i32⟩
  | 6 => ⟨S301056, .i32⟩
  | 7 => ⟨S301056x1, .i32⟩
  | 8 => ⟨S_, .f32⟩
  | 9 => ⟨S301056, .f32⟩
  | 10 => ⟨S19267584, .f32⟩
  | 11 => ⟨S96x56x56, .i32⟩
  | 12 => ⟨S96x56x56, .i32⟩
  | 13 => ⟨S_, .i32⟩
  | 14 => ⟨S96x56x56, .i32⟩
  | 15 => ⟨S96x56x56, .i32⟩
  | 16 => ⟨S96x56x56, .i32⟩
  | 17 => ⟨S96x56x56, .i32⟩
  | 18 => ⟨S301056, .i32⟩
  | 19 => ⟨S301056x1, .i32⟩
  | 20 => ⟨S_, .f32⟩
  | 21 => ⟨S301056, .f32⟩
  | 22 => ⟨S19267584, .f32⟩
  | 23 => ⟨S96x56x56, .i32⟩
  | 24 => ⟨S96x56x56, .i32⟩
  | 25 => ⟨S_, .i32⟩
  | 26 => ⟨S96x56x56, .i32⟩
  | 27 => ⟨S96x56x56, .i32⟩
  | 28 => ⟨S96x56x56, .i32⟩
  | 29 => ⟨S96x56x56, .i32⟩
  | 30 => ⟨S301056, .i32⟩
  | 31 => ⟨S301056x1, .i32⟩
  | 32 => ⟨S_, .f32⟩
  | 33 => ⟨S301056, .f32⟩
  | 34 => ⟨S19267584, .f32⟩
  | 35 => ⟨S96x56x56, .i32⟩
  | 36 => ⟨S96x56x56, .i32⟩
  | 37 => ⟨S_, .i32⟩
  | 38 => ⟨S96x56x56, .i32⟩
  | 39 => ⟨S96x56x56, .i32⟩
  | 40 => ⟨S96x56x56, .i32⟩
  | 41 => ⟨S96x56x56, .i32⟩
  | 42 => ⟨S301056, .i32⟩
  | 43 => ⟨S301056x1, .i32⟩
  | 44 => ⟨S_, .f32⟩
  | 45 => ⟨S301056, .f32⟩
  | 46 => ⟨S19267584, .f32⟩
  | 47 => ⟨S96x56x56, .i32⟩
  | 48 => ⟨S96x56x56, .i32⟩
  | 49 => ⟨S_, .i32⟩
  | 50 => ⟨S96x56x56, .i32⟩
  | 51 => ⟨S96x56x56, .i32⟩
  | 52 => ⟨S96x56x56, .i32⟩
  | 53 => ⟨S96x56x56, .i32⟩
  | 54 => ⟨S301056, .i32⟩
  | 55 => ⟨S301056x1, .i32⟩
  | 56 => ⟨S_, .f32⟩
  | 57 => ⟨S301056, .f32⟩
  | 58 => ⟨S19267584, .f32⟩
  | 59 => ⟨S96x56x56, .i32⟩
  | 60 => ⟨S96x56x56, .i32⟩
  | 61 => ⟨S_, .i32⟩
  | 62 => ⟨S96x56x56, .i32⟩
  | 63 => ⟨S96x56x56, .i32⟩
  | 64 => ⟨S96x56x56, .i32⟩
  | 65 => ⟨S96x56x56, .i32⟩
  | 66 => ⟨S301056, .i32⟩
  | 67 => ⟨S301056x1, .i32⟩
  | 68 => ⟨S_, .f32⟩
  | 69 => ⟨S301056, .f32⟩
  | 70 => ⟨S19267584, .f32⟩
  | 71 => ⟨S96x56x56, .i32⟩
  | 72 => ⟨S96x56x56, .i32⟩
  | 73 => ⟨S_, .i32⟩
  | 74 => ⟨S96x56x56, .i32⟩
  | 75 => ⟨S96x56x56, .i32⟩
  | 76 => ⟨S96x56x56, .i32⟩
  | 77 => ⟨S96x56x56, .i32⟩
  | 78 => ⟨S301056, .i32⟩
  | 79 => ⟨S301056x1, .i32⟩
  | 80 => ⟨S_, .f32⟩
  | 81 => ⟨S301056, .f32⟩
  | 82 => ⟨S19267584, .f32⟩
  | 83 => ⟨S96x56x56, .i32⟩
  | 84 => ⟨S96x56x56, .i32⟩
  | 85 => ⟨S_, .i32⟩
  | 86 => ⟨S96x56x56, .i32⟩
  | 87 => ⟨S96x56x56, .i32⟩
  | 88 => ⟨S96x56x56, .i32⟩
  | 89 => ⟨S96x56x56, .i32⟩
  | 90 => ⟨S301056, .i32⟩
  | 91 => ⟨S301056x1, .i32⟩
  | 92 => ⟨S_, .f32⟩
  | 93 => ⟨S301056, .f32⟩
  | 94 => ⟨S19267584, .f32⟩
  | 95 => ⟨S96x56x56, .i32⟩
  | 96 => ⟨S96x56x56, .i32⟩
  | 97 => ⟨S_, .i32⟩
  | 98 => ⟨S96x56x56, .i32⟩
  | 99 => ⟨S96x56x56, .i32⟩
  | 100 => ⟨S96x56x56, .i32⟩
  | 101 => ⟨S96x56x56, .i32⟩
  | 102 => ⟨S301056, .i32⟩
  | 103 => ⟨S301056x1, .i32⟩
  | 104 => ⟨S_, .f32⟩
  | 105 => ⟨S301056, .f32⟩
  | 106 => ⟨S19267584, .f32⟩
  | 107 => ⟨S96x56x56, .i32⟩
  | 108 => ⟨S96x56x56, .i32⟩
  | 109 => ⟨S_, .i32⟩
  | 110 => ⟨S96x56x56, .i32⟩
  | 111 => ⟨S96x56x56, .i32⟩
  | 112 => ⟨S96x56x56, .i32⟩
  | 113 => ⟨S96x56x56, .i32⟩
  | 114 => ⟨S301056, .i32⟩
  | 115 => ⟨S301056x1, .i32⟩
  | 116 => ⟨S_, .f32⟩
  | 117 => ⟨S301056, .f32⟩
  | 118 => ⟨S19267584, .f32⟩
  | 119 => ⟨S96x56x56, .i32⟩
  | 120 => ⟨S96x56x56, .i32⟩
  | 121 => ⟨S_, .i32⟩
  | 122 => ⟨S96x56x56, .i32⟩
  | 123 => ⟨S96x56x56, .i32⟩
  | 124 => ⟨S96x56x56, .i32⟩
  | 125 => ⟨S96x56x56, .i32⟩
  | 126 => ⟨S301056, .i32⟩
  | 127 => ⟨S301056x1, .i32⟩
  | _ => ⟨S1x96x56x56, .f32⟩

abbrev hbmTy0_2 (i : Nat) : BufTy := match i % 128 with
  | 0 => ⟨S_, .f32⟩
  | 1 => ⟨S301056, .f32⟩
  | 2 => ⟨S19267584, .f32⟩
  | 3 => ⟨S96x56x56, .i32⟩
  | 4 => ⟨S96x56x56, .i32⟩
  | 5 => ⟨S_, .i32⟩
  | 6 => ⟨S96x56x56, .i32⟩
  | 7 => ⟨S96x56x56, .i32⟩
  | 8 => ⟨S96x56x56, .i32⟩
  | 9 => ⟨S96x56x56, .i32⟩
  | 10 => ⟨S301056, .i32⟩
  | 11 => ⟨S301056x1, .i32⟩
  | 12 => ⟨S_, .f32⟩
  | 13 => ⟨S301056, .f32⟩
  | 14 => ⟨S19267584, .f32⟩
  | 15 => ⟨S96x56x56, .i32⟩
  | 16 => ⟨S96x56x56, .i32⟩
  | 17 => ⟨S_, .i32⟩
  | 18 => ⟨S96x56x56, .i32⟩
  | 19 => ⟨S96x56x56, .i32⟩
  | 20 => ⟨S96x56x56, .i32⟩
  | 21 => ⟨S96x56x56, .i32⟩
  | 22 => ⟨S301056, .i32⟩
  | 23 => ⟨S301056x1, .i32⟩
  | 24 => ⟨S_, .f32⟩
  | 25 => ⟨S301056, .f32⟩
  | 26 => ⟨S19267584, .f32⟩
  | 27 => ⟨S96x56x56, .i32⟩
  | 28 => ⟨S96x56x56, .i32⟩
  | 29 => ⟨S_, .i32⟩
  | 30 => ⟨S96x56x56, .i32⟩
  | 31 => ⟨S96x56x56, .i32⟩
  | 32 => ⟨S96x56x56, .i32⟩
  | 33 => ⟨S96x56x56, .i32⟩
  | 34 => ⟨S301056, .i32⟩
  | 35 => ⟨S301056x1, .i32⟩
  | 36 => ⟨S_, .f32⟩
  | 37 => ⟨S301056, .f32⟩
  | 38 => ⟨S19267584, .f32⟩
  | 39 => ⟨S96x56x56x8x8, .f32⟩
  | 40 => ⟨S_, .f32⟩
  | 41 => ⟨S96x56x56x8x8, .f32⟩
  | 42 => ⟨S96x56x56x8x8, .f32⟩
  | 43 => ⟨S_, .f32⟩
  | 44 => ⟨S96x56x56x8, .f32⟩
  | 45 => ⟨S_, .f32⟩
  | 46 => ⟨S96x56x56, .f32⟩
  | 47 => ⟨S_, .f32⟩
  | 48 => ⟨S96x56x56, .f32⟩
  | 49 => ⟨S96x56x56, .f32⟩
  | 50 => ⟨S96x56x56x1x1, .f32⟩
  | 51 => ⟨S96x56x56x8x8, .f32⟩
  | 52 => ⟨S96x56x56x8x8, .f32⟩
  | 53 => ⟨S8, .i32⟩
  | 54 => ⟨S8, .f32⟩
  | 55 => ⟨S8x1, .f32⟩
  | 56 => ⟨S1x8, .f32⟩
  | 57 => ⟨S8x8, .f32⟩
  | 58 => ⟨S8x8, .f32⟩
  | 59 => ⟨S8x8, .f32⟩
  | 60 => ⟨S8x8, .f32⟩
  | 61 => ⟨S1x1x1x8x8, .f32⟩
  | 62 => ⟨S96x56x56x8x8, .f32⟩
  | 63 => ⟨S96x56x56x8x8, .f32⟩
  | 64 => ⟨S_, .f32⟩
  | 65 => ⟨S96x56x56x8, .f32⟩
  | 66 => ⟨S_, .f32⟩
  | 67 => ⟨S96x56x56, .f32⟩
  | 68 => ⟨S96x56x56x8x8, .f32⟩
  | 69 => ⟨S_, .f32⟩
  | 70 => ⟨S96x56x56x8, .f32⟩
  | 71 => ⟨S_, .f32⟩
  | 72 => ⟨S96x56x56, .f32⟩
  | 73 => ⟨S_, .f32⟩
  | 74 => ⟨S96x56x56x8x8, .f32⟩
  | 75 => ⟨S96x56x56x8x8, .f32⟩
  | 76 => ⟨S96x56x56x8x8, .f32⟩
  | 77 => ⟨S96x56x56x8x8, .f32⟩
  | 78 => ⟨S_, .f32⟩
  | 79 => ⟨S96x56x56x8, .f32⟩
  | 80 => ⟨S_, .f32⟩
  | 81 => ⟨S96x56x56, .f32⟩
  | 82 => ⟨S96x56x56, .f32⟩
  | 83 => ⟨S8x8, .f32⟩
  | 84 => ⟨S_, .f32⟩
  | 85 => ⟨S8x8, .f32⟩
  | 86 => ⟨S8x8, .f32⟩
  | 87 => ⟨S1x1x1x8x8, .f32⟩
  | 88 => ⟨S96x56x56x8x8, .f32⟩
  | 89 => ⟨S96x56x56x8x8, .f32⟩
  | 90 => ⟨S_, .f32⟩
  | 91 => ⟨S96x56x56x8, .f32⟩
  | 92 => ⟨S_, .f32⟩
  | 93 => ⟨S96x56x56, .f32⟩
  | 94 => ⟨S96x1x56x56, .f32⟩
  | 95 => ⟨S96x1x56x56, .f32⟩
  | 96 => ⟨S96x1x56x56, .f32⟩
  | 97 => ⟨S96x1x56x56, .f32⟩
  | 98 => ⟨S96x4x56x56, .f32⟩
  | 99 => ⟨S_, .f32⟩
  | 100 => ⟨S4x56x56, .f32⟩
  | 101 => ⟨S_, .f32⟩
  | 102 => ⟨S4x56x56, .f32⟩
  | 103 => ⟨S4x56x56, .f32⟩
  | 104 => ⟨S100x56x56, .f32⟩
  | 105 => ⟨S48x100, .f32⟩
  | 106 => ⟨S48x56x56, .f32⟩
  | 107 => ⟨S_, .f32⟩
  | 108 => ⟨S_, .f32⟩
  | 109 => ⟨S_, .f32⟩
  | 110 => ⟨S48x56x56, .f32⟩
  | 111 => ⟨S48x56x56, .f32⟩
  | 112 => ⟨S48x1x1, .f32⟩
  | 113 => ⟨S48x56x56, .f32⟩
  | 114 => ⟨S48x56x56, .f32⟩
  | 115 => ⟨S48x1x1, .f32⟩
  | 116 => ⟨S48x56x56, .f32⟩
  | 117 => ⟨S48x56x56, .f32⟩
  | 118 => ⟨S48x56x56, .f32⟩
  | 119 => ⟨S48x56x56, .f32⟩
  | 120 => ⟨S_, .f32⟩
  | 121 => ⟨S48x56x56, .f32⟩
  | 122 => ⟨S48x56x56, .f32⟩
  | 123 => ⟨S_, .f32⟩
  | 124 => ⟨S48x56x56, .f32⟩
  | 125 => ⟨S48x56x56, .f32⟩
  | 126 => ⟨S48x56x56, .f32⟩
  | 127 => ⟨S24x48, .f32⟩
  | _ => ⟨S1x96x56x56, .f32⟩

abbrev hbmTy0_3 (i : Nat) : BufTy := match i % 128 with
  | 0 => ⟨S24x56x56, .f32⟩
  | 1 => ⟨S_, .f32⟩
  | 2 => ⟨S_, .f32⟩
  | 3 => ⟨S_, .f32⟩
  | 4 => ⟨S24x56x56, .f32⟩
  | 5 => ⟨S24x56x56, .f32⟩
  | 6 => ⟨S24x1x1, .f32⟩
  | 7 => ⟨S24x56x56, .f32⟩
  | 8 => ⟨S24x56x56, .f32⟩
  | 9 => ⟨S24x1x1, .f32⟩
  | 10 => ⟨S24x56x56, .f32⟩
  | 11 => ⟨S24x56x56, .f32⟩
  | 12 => ⟨S24x56x56, .f32⟩
  | 13 => ⟨S24x56x56, .f32⟩
  | 14 => ⟨S_, .f32⟩
  | 15 => ⟨S24x56x56, .f32⟩
  | 16 => ⟨S24x56x56, .f32⟩
  | 17 => ⟨S_, .f32⟩
  | 18 => ⟨S24x56x56, .f32⟩
  | 19 => ⟨S24x56x56, .f32⟩
  | 20 => ⟨S24x56x56, .f32⟩
  | 21 => ⟨S_, .f32⟩
  | 22 => ⟨S24x58x58, .f32⟩
  | 23 => ⟨S48x24x1x1, .f32⟩
  | 24 => ⟨S48x24, .f32⟩
  | 25 => ⟨S24x56x56, .f32⟩
  | 26 => ⟨S48x56x56, .f32⟩
  | 27 => ⟨S48x24x1x1, .f32⟩
  | 28 => ⟨S48x24, .f32⟩
  | 29 => ⟨S24x56x56, .f32⟩
  | 30 => ⟨S48x56x56, .f32⟩
  | 31 => ⟨S48x56x56, .f32⟩
  | 32 => ⟨S48x24x1x1, .f32⟩
  | 33 => ⟨S48x24, .f32⟩
  | 34 => ⟨S24x56x56, .f32⟩
  | 35 => ⟨S48x56x56, .f32⟩
  | 36 => ⟨S48x56x56, .f32⟩
  | 37 => ⟨S48x24x1x1, .f32⟩
  | 38 => ⟨S48x24, .f32⟩
  | 39 => ⟨S24x56x56, .f32⟩
  | 40 => ⟨S48x56x56, .f32⟩
  | 41 => ⟨S48x56x56, .f32⟩
  | 42 => ⟨S48x24x1x1, .f32⟩
  | 43 => ⟨S48x24, .f32⟩
  | 44 => ⟨S24x56x56, .f32⟩
  | 45 => ⟨S48x56x56, .f32⟩
  | 46 => ⟨S48x56x56, .f32⟩
  | 47 => ⟨S48x24x1x1, .f32⟩
  | 48 => ⟨S48x24, .f32⟩
  | 49 => ⟨S24x56x56, .f32⟩
  | 50 => ⟨S48x56x56, .f32⟩
  | 51 => ⟨S48x56x56, .f32⟩
  | 52 => ⟨S48x24x1x1, .f32⟩
  | 53 => ⟨S48x24, .f32⟩
  | 54 => ⟨S24x56x56, .f32⟩
  | 55 => ⟨S48x56x56, .f32⟩
  | 56 => ⟨S48x56x56, .f32⟩
  | 57 => ⟨S48x24x1x1, .f32⟩
  | 58 => ⟨S48x24, .f32⟩
  | 59 => ⟨S24x56x56, .f32⟩
  | 60 => ⟨S48x56x56, .f32⟩
  | 61 => ⟨S48x56x56, .f32⟩
  | 62 => ⟨S48x24x1x1, .f32⟩
  | 63 => ⟨S48x24, .f32⟩
  | 64 => ⟨S24x56x56, .f32⟩
  | 65 => ⟨S48x56x56, .f32⟩
  | 66 => ⟨S48x56x56, .f32⟩
  | 67 => ⟨S_, .f32⟩
  | 68 => ⟨S_, .f32⟩
  | 69 => ⟨S_, .f32⟩
  | 70 => ⟨S48x56x56, .f32⟩
  | 71 => ⟨S48x56x56, .f32⟩
  | 72 => ⟨S48x1x1, .f32⟩
  | 73 => ⟨S48x56x56, .f32⟩
  | 74 => ⟨S48x56x56, .f32⟩
  | 75 => ⟨S48x1x1, .f32⟩
  | 76 => ⟨S48x56x56, .f32⟩
  | 77 => ⟨S48x56x56, .f32⟩
  | 78 => ⟨S48x56x56, .f32⟩
  | 79 => ⟨S48x56x56, .f32⟩
  | 80 => ⟨S_, .f32⟩
  | 81 => ⟨S48x56x56, .f32⟩
  | 82 => ⟨S48x56x56, .f32⟩
  | 83 => ⟨S_, .f32⟩
  | 84 => ⟨S48x56x56, .f32⟩
  | 85 => ⟨S48x56x56, .f32⟩
  | 86 => ⟨S48x56x56, .f32⟩
  | 87 => ⟨S48x56x56, .f32⟩
  | 88 => ⟨S48x100, .f32⟩
  | 89 => ⟨S48x56x56, .f32⟩
  | 90 => ⟨S_, .f32⟩
  | 91 => ⟨S_, .f32⟩
  | 92 => ⟨S_, .f32⟩
  | 93 => ⟨S48x56x56, .f32⟩
  | 94 => ⟨S48x56x56, .f32⟩
  | 95 => ⟨S48x1x1, .f32⟩
  | 96 => ⟨S48x56x56, .f32⟩
  | 97 => ⟨S48x56x56, .f32⟩
  | 98 => ⟨S48x1x1, .f32⟩
  | 99 => ⟨S48x56x56, .f32⟩
  | 100 => ⟨S48x56x56, .f32⟩
  | 101 => ⟨S48x56x56, .f32⟩
  | 102 => ⟨S48x56x56, .f32⟩
  | 103 => ⟨S_, .f32⟩
  | 104 => ⟨S48x56x56, .f32⟩
  | 105 => ⟨S48x56x56, .f32⟩
  | 106 => ⟨S_, .f32⟩
  | 107 => ⟨S48x56x56, .f32⟩
  | 108 => ⟨S48x56x56, .f32⟩
  | 109 => ⟨S48x56x56, .f32⟩
  | 110 => ⟨S96x56x56, .f32⟩
  | 111 => ⟨S96x96, .f32⟩
  | 112 => ⟨S96x56x56, .f32⟩
  | 113 => ⟨S_, .f32⟩
  | 114 => ⟨S_, .f32⟩
  | 115 => ⟨S_, .f32⟩
  | 116 => ⟨S96x56x56, .f32⟩
  | 117 => ⟨S96x56x56, .f32⟩
  | 118 => ⟨S96x1x1, .f32⟩
  | 119 => ⟨S96x56x56, .f32⟩
  | 120 => ⟨S96x56x56, .f32⟩
  | 121 => ⟨S96x1x1, .f32⟩
  | 122 => ⟨S96x56x56, .f32⟩
  | 123 => ⟨S96x56x56, .f32⟩
  | 124 => ⟨S96x56x56, .f32⟩
  | 125 => ⟨S96x56x56, .f32⟩
  | 126 => ⟨S_, .f32⟩
  | 127 => ⟨S96x56x56, .f32⟩
  | _ => ⟨S1x96x56x56, .f32⟩

abbrev hbmTy0_4 (i : Nat) : BufTy := match i % 128 with
  | 0 => ⟨S96x56x56, .f32⟩
  | 1 => ⟨S_, .f32⟩
  | 2 => ⟨S96x56x56, .f32⟩
  | 3 => ⟨S96x56x56, .f32⟩
  | 4 => ⟨S96x56x56, .f32⟩
  | 5 => ⟨S1x96x56x56, .f32⟩
  | _ => ⟨S1x96x56x56, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x96x56x56, .f32⟩

abbrev bufTy : (tb : Table) → Fin (tcTables nBuf tb) → BufTy
  | .hbm, ⟨i, _⟩ => hbmTy i
  | _, _ => ⟨S1x96x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c : Ref sig .tc := ⟨.hbm, 42, rfl⟩
abbrev main_v25 : Ref sig .tc := ⟨.hbm, 43, rfl⟩
abbrev main_v26 : Ref sig .tc := ⟨.hbm, 44, rfl⟩
abbrev main_c_0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_3 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_6 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_7 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_12 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_13 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_14 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_15 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_16 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_17 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_18 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_c_19 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_20 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_21 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_22 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_c_23 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_24 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_c_25 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_26 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_c_27 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_28 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_c_29 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_30 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_c_31 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_32 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_c_33 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_cst_34 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_c_35 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_cst_36 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_c_37 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_cst_38 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_c_39 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_cst_40 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_c_41 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_42 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_cst_43 : Ref sig .tc := ⟨.hbm, 296, rfl⟩
abbrev main_v235 : Ref sig .tc := ⟨.hbm, 297, rfl⟩
abbrev main_v236 : Ref sig .tc := ⟨.hbm, 298, rfl⟩
abbrev main_cst_44 : Ref sig .tc := ⟨.hbm, 299, rfl⟩
abbrev main_v237 : Ref sig .tc := ⟨.hbm, 300, rfl⟩
abbrev main_cst_45 : Ref sig .tc := ⟨.hbm, 301, rfl⟩
abbrev main_v238 : Ref sig .tc := ⟨.hbm, 302, rfl⟩
abbrev main_cst_46 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_cst_47 : Ref sig .tc := ⟨.hbm, 320, rfl⟩
abbrev main_v255 : Ref sig .tc := ⟨.hbm, 321, rfl⟩
abbrev main_cst_48 : Ref sig .tc := ⟨.hbm, 322, rfl⟩
abbrev main_v256 : Ref sig .tc := ⟨.hbm, 323, rfl⟩
abbrev main_v257 : Ref sig .tc := ⟨.hbm, 324, rfl⟩
abbrev main_cst_49 : Ref sig .tc := ⟨.hbm, 325, rfl⟩
abbrev main_v258 : Ref sig .tc := ⟨.hbm, 326, rfl⟩
abbrev main_cst_50 : Ref sig .tc := ⟨.hbm, 327, rfl⟩
abbrev main_v259 : Ref sig .tc := ⟨.hbm, 328, rfl⟩
abbrev main_cst_51 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_cst_52 : Ref sig .tc := ⟨.hbm, 334, rfl⟩
abbrev main_v264 : Ref sig .tc := ⟨.hbm, 335, rfl⟩
abbrev main_cst_53 : Ref sig .tc := ⟨.hbm, 336, rfl⟩
abbrev main_v265 : Ref sig .tc := ⟨.hbm, 337, rfl⟩
abbrev main_v266 : Ref sig .tc := ⟨.hbm, 338, rfl⟩
abbrev main_v267 : Ref sig .tc := ⟨.hbm, 339, rfl⟩
abbrev main_cst_54 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_cst_55 : Ref sig .tc := ⟨.hbm, 346, rfl⟩
abbrev main_v273 : Ref sig .tc := ⟨.hbm, 347, rfl⟩
abbrev main_cst_56 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_cst_57 : Ref sig .tc := ⟨.hbm, 355, rfl⟩
abbrev main_v280 : Ref sig .tc := ⟨.hbm, 356, rfl⟩
abbrev main_cst_58 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_cst_59 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_cst_60 : Ref sig .tc := ⟨.hbm, 376, rfl⟩
abbrev main_v298 : Ref sig .tc := ⟨.hbm, 377, rfl⟩
abbrev main_v299 : Ref sig .tc := ⟨.hbm, 378, rfl⟩
abbrev main_cst_61 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_v303 : Ref sig .tc := ⟨.hbm, 383, rfl⟩
abbrev main_v304 : Ref sig .tc := ⟨.hbm, 384, rfl⟩
abbrev main_cst_62 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_cst_63 : Ref sig .tc := ⟨.hbm, 398, rfl⟩
abbrev main_v317 : Ref sig .tc := ⟨.hbm, 399, rfl⟩
abbrev main_v318 : Ref sig .tc := ⟨.hbm, 400, rfl⟩
abbrev main_cst_64 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_cst_65 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_v326 : Ref sig .tc := ⟨.hbm, 410, rfl⟩
abbrev main_v327 : Ref sig .tc := ⟨.hbm, 411, rfl⟩
abbrev main_v328 : Ref sig .tc := ⟨.hbm, 412, rfl⟩
abbrev main_v329 : Ref sig .tc := ⟨.hbm, 413, rfl⟩
abbrev main_v330 : Ref sig .tc := ⟨.hbm, 414, rfl⟩
abbrev main_v331 : Ref sig .tc := ⟨.hbm, 415, rfl⟩
abbrev main_v332 : Ref sig .tc := ⟨.hbm, 416, rfl⟩
abbrev main_v333 : Ref sig .tc := ⟨.hbm, 417, rfl⟩
abbrev main_v334 : Ref sig .tc := ⟨.hbm, 418, rfl⟩
abbrev main_v335 : Ref sig .tc := ⟨.hbm, 419, rfl⟩
abbrev main_v336 : Ref sig .tc := ⟨.hbm, 420, rfl⟩
abbrev main_v337 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_v359 : Ref sig .tc := ⟨.hbm, 443, rfl⟩
abbrev main_v360 : Ref sig .tc := ⟨.hbm, 444, rfl⟩
abbrev main_v361 : Ref sig .tc := ⟨.hbm, 445, rfl⟩
abbrev main_v362 : Ref sig .tc := ⟨.hbm, 446, rfl⟩
abbrev main_v363 : Ref sig .tc := ⟨.hbm, 447, rfl⟩
abbrev main_v364 : Ref sig .tc := ⟨.hbm, 448, rfl⟩
abbrev main_v365 : Ref sig .tc := ⟨.hbm, 449, rfl⟩
abbrev main_v366 : Ref sig .tc := ⟨.hbm, 450, rfl⟩
abbrev main_cst_66 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_cst_67 : Ref sig .tc := ⟨.hbm, 464, rfl⟩
abbrev main_v379 : Ref sig .tc := ⟨.hbm, 465, rfl⟩
abbrev main_v380 : Ref sig .tc := ⟨.hbm, 466, rfl⟩
abbrev main_cst_68 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_v384 : Ref sig .tc := ⟨.hbm, 471, rfl⟩
abbrev main_v385 : Ref sig .tc := ⟨.hbm, 472, rfl⟩
abbrev main_v386 : Ref sig .tc := ⟨.hbm, 473, rfl⟩
abbrev main_cst_69 : Ref sig .tc := ⟨.hbm, 474, rfl⟩
abbrev main_v387 : Ref sig .tc := ⟨.hbm, 475, rfl⟩
abbrev main_v388 : Ref sig .tc := ⟨.hbm, 476, rfl⟩
abbrev main_v389 : Ref sig .tc := ⟨.hbm, 477, rfl⟩
abbrev main_v390 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_v398 : Ref sig .tc := ⟨.hbm, 486, rfl⟩
abbrev main_cst_70 : Ref sig .tc := ⟨.hbm, 487, rfl⟩
abbrev main_v399 : Ref sig .tc := ⟨.hbm, 488, rfl⟩
abbrev main_v400 : Ref sig .tc := ⟨.hbm, 489, rfl⟩
abbrev main_cst_71 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_cst_72 : Ref sig .tc := ⟨.hbm, 497, rfl⟩
abbrev main_v407 : Ref sig .tc := ⟨.hbm, 498, rfl⟩
abbrev main_v408 : Ref sig .tc := ⟨.hbm, 499, rfl⟩
abbrev main_v409 : Ref sig .tc := ⟨.hbm, 500, rfl⟩
abbrev main_v410 : Ref sig .tc := ⟨.hbm, 501, rfl⟩
abbrev main_v411 : Ref sig .tc := ⟨.hbm, 502, rfl⟩
abbrev main_v412 : Ref sig .tc := ⟨.hbm, 503, rfl⟩
abbrev main_v413 : Ref sig .tc := ⟨.hbm, 504, rfl⟩
abbrev main_v414 : Ref sig .tc := ⟨.hbm, 505, rfl⟩
abbrev main_v415 : Ref sig .tc := ⟨.hbm, 506, rfl⟩
abbrev main_v416 : Ref sig .tc := ⟨.hbm, 507, rfl⟩
abbrev main_v417 : Ref sig .tc := ⟨.hbm, 508, rfl⟩
abbrev main_v418 : Ref sig .tc := ⟨.hbm, 509, rfl⟩
abbrev main_cst_73 : Ref sig .tc := ⟨.hbm, 510, rfl⟩
abbrev main_v419 : Ref sig .tc := ⟨.hbm, 511, rfl⟩
abbrev main_v420 : Ref sig .tc := ⟨.hbm, 512, rfl⟩
abbrev main_cst_74 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩

abbrev nD : Nat := 1
abbrev τ : Topo := Topo.v7x

variable {F : FTy → Type} [FloatOps F]
-- ==== Proof.Frames.KernelIdealC.lean ====
/- The whole-body run of the program `KernelIdeal` at the last point of its grid (case `C`), taken over from the produced
   text with a larger budget. -/
module

public import proofs.«01_k».proof.Proof.Gen.KernelIdeal.Frame.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE C (`scf.if` 0 not taken, `scf.if` 2 taken: points 12), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : ¬cond0_0 i) (hc2 : cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) :
    Σ' (L20 : List (View.Piece (Elt F) S96x3248 .f32)), Σ' (LS1 : List (View.Piece (Elt F) S4x3248 .f32)), Σ' (LT0 : List (View.Piece (Elt F) S72x3248 .bf16)), Σ' (LT2 : List (View.Piece (Elt F) S24x3366 .f32)), { LT3 : List (View.Piece (Elt F) S216x3248 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ owns (c : Thread nD τ) arg23 fullShare xs1 ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ d, owns (c : Thread nD τ) arg22 fullShare d) ∗ owns (c : Thread nD τ) arg23 fullShare xs1 ∗ (∃ f, arg24.view.loc (c : Thread nD τ) ↦[arg24.view.set]{fullShare} arg24.view.writes (Elt F) f LT2) ∗ (∃ f, arg25.view.loc (c : Thread nD τ) ↦[arg25.view.set]{fullShare} arg25.view.writes (Elt F) f LT3)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, [], [], ?_, ?_, fun E K => ?run⟩
  case run =>
    simp only [cc0__fused_kernel_eq_skeleton]; unfold cc0__fused_kernel_skel
    simp only [k0_part150_eq_skeleton, k0_part151_eq_skeleton, k0_part152_eq_skeleton, k0_part153_eq_skeleton, k0_part154_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%ds0, %fs0, -, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg23.eq_unread hfs1
    sl_exec (disch := first | sl_exact hc0 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [HS0]
    · iexists _, _; isplitr; swap; · iexact HS0
      ipureintro; rfl
    isplitl [HS1]
    · iexists _; isplitr; · ipureintro; exact harg23.read_unread _
      iexact HS1
    isplitl [HS2]; · iexists _; iexact HS2
    iexists _; iexact HS3

end Cert.KernelIdeal.Gen

end
-- ==== Proof.Frames.KernelIdealFrame.lean ====
/- The frame of the program `KernelIdeal`: what its buffers hold case by case and point by point, its run, and that no
   argument changes. Taken over from the produced certificate so as to import the case `C` run with a larger budget. -/
module

public import proofs.«01_k».proof.Proof.Frames.KernelIdealC
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 20 (the window is idle at its points and not written back there):
    no pieces — a placeholder (junk read back) that nothing consults, since at these points the window is neither
    written back nor read at the next point (Lib/Pipeline.lean "Idle points"). -/
def out0_A_20 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) : Vec F S96x3248 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19).1)

/-- Case A's pieces for scratch `arg23`, which the kernel carries between points, cover it: one of them a store of the WHOLE buffer (Lib/Ring.lean `sl_whole_mem`). -/
theorem scover0_A_1 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (y : S4x3248.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19).2.1 (by sl_whole_mem) y

/-- What case A leaves in scratch `arg23`: its pieces read back over junk. -/
def sout0_A_1 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) : Vec F S4x3248 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19).2.1)

/-- Case B stores nothing into output 20 (the window is idle at its points and not written back there):
    no pieces — a placeholder (junk read back) that nothing consults, since at these points the window is neither
    written back nor read at the next point (Lib/Pipeline.lean "Idle points"). -/
def out0_B_20 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : ¬cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) : Vec F S96x3248 .f32 :=
  VO0_20.read (Elt F) (VO0_20.writes (Elt F) VO0_20.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19 xs1).1)

/-- Case B's pieces for scratch `arg23`, which the kernel carries between points, cover it: 7 pieces (stores and landed copies) of several sizes (`S4x176`, `S4x512`) tiling it when cut into blocks of `![4, 16]` (Lib/Ring.lean `Piece.tiledBy`). -/
theorem scover0_B_1 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : ¬cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) (y : S4x3248.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19 xs1).2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19 xs1).2.1 ![4, 16] (by sl_kernel_rfl) y

/-- What case B leaves in scratch `arg23`: its pieces read back over junk. -/
def sout0_B_1 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : ¬cond0_1 i) (hc2 : ¬cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) : Vec F S4x3248 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19 xs1).2.1)

/-- Case C's pieces for output 20 tile its block (1 store of `S96x3248`, checked by the kernel's evaluation: Lib/Ring.lean `Piece.tiledL`, linear in the pieces, through a loop's `@[irreducible]` trip theorem too), so they cover it. -/
theorem cover0_C_20 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : ¬cond0_0 i) (hc2 : cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) (y : S96x3248.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc2 x0 x1 x2 x3 x4 x5 x6 x7 x8 x9 x10 x11 x12 x13 x14 x15 x16 x17 x18 x19 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc2 x0 x1 x2 x3 x4 x5 x6 x7 x8 x9 x10 x11 x12 x13 x14 x15 x16 x17 x18 x19 xs1).1 S96x3248.size (by sl_kernel_rfl) y

/-- What case C leaves in output 20's staging buffer: its pieces read back over junk. -/
def out0_C_20 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : ¬cond0_0 i) (hc2 : cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) : Vec F S96x3248 .f32 :=
  VO0_20.read (Elt F) (VO0_20.writes (Elt F) VO0_20.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc2 x0 x1 x2 x3 x4 x5 x6 x7 x8 x9 x10 x11 x12 x13 x14 x15 x16 x17 x18 x19 xs1).1)

/-- Case C stores nothing into scratch `arg23`: it holds what the point before left. -/
def sout0_C_1 (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : ¬cond0_0 i) (hc2 : cond0_2 i)
    (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32) : Vec F S4x3248 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S96x3248 .f32 × Vec F S4x3248 .f32
  | 0, hn => (out0_A_20 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) scM0_0 (Memref.isWhole_whole _) scM0_1 (Memref.isWhole_whole _) scM0_2 (Memref.isWhole_whole _) scM0_3 (Memref.isWhole_whole _) ((hcond0_0 ⟨0, hn⟩).mpr (by (try dsimp only); omega)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩))
  | n + 1, hn =>
    if h0 : (n + 1) < 12 then
      if h1 : (n + 1) % 13 = 0 then
        if h2 : (n + 1) % 13 = 12 then
          False.elim (by have hN : n + 1 < 13 := lt_of_lt_of_eq hn (show cfg0.N = 13 from N_0); omega)
        else
          (out0_A_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩))
      else
        if h2 : (n + 1) % 13 = 12 then
          False.elim (by have hN : n + 1 < 13 := lt_of_lt_of_eq hn (show cfg0.N = 13 from N_0); omega)
        else
          (out0_B_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2)
    else
      if h2 : (n + 1) % 13 = 12 then
        (out0_C_20 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (outsAt0 c n (Nat.lt_of_succ_lt hn)).2)
      else
        False.elim (by have hN : n + 1 < 13 := lt_of_lt_of_eq hn (show cfg0.N = 13 from N_0); omega)

/-- `outsAt0` at a point of case A: that case's contents. -/
theorem outsAt0_A (c : Dev nD) (t : Fin cfg0.N) (h0 : t.val < 12) (h1 : t.val % 13 = 0) (h2 : ¬t.val % 13 = 12) :
    outsAt0 m c t.val t.isLt = (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : t.val < 12) (h1 : ¬t.val % 13 = 0) (h2 : ¬t.val % 13 = 12) :
    outsAt0 m c t.val t.isLt = (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- `outsAt0` at a point of case C: that case's contents, over what the point before left. -/
theorem outsAt0_C (c : Dev nD) (t : Fin cfg0.N) (h0 : ¬t.val < 12) (h2 : t.val % 13 = 12) :
    outsAt0 m c t.val t.isLt = (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) scM0_3 (Memref.isWhole_whole _) (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (outsAt0 m c (t.val - 1) (Nat.lt_of_le_of_lt (Nat.sub_le _ _) t.isLt)).2) := by
  obtain ⟨n, hn⟩ := t
  cases n with
  | zero => exact (by exfalso; (try dsimp only at h0); exact by omega)
  | succ n => exact (dif_neg h0).trans ((dif_pos h2).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r))

/-- Before the first point the scratch is as the launch left it. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨_ + 21, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- A point leaves window 1 with its block. -/
theorem after0_1 (c : Dev nD) (t : Fin cfg0.N) : (dats m 0 c).after 1 t = iblk m c 1 t := by dsimp only [dats]
/-- A point leaves window 2 with its block. -/
theorem after0_2 (c : Dev nD) (t : Fin cfg0.N) : (dats m 0 c).after 2 t = iblk m c 2 t := by dsimp only [dats]
/-- A point leaves window 3 with its block. -/
theorem after0_3 (c : Dev nD) (t : Fin cfg0.N) : (dats m 0 c).after 3 t = iblk m c 3 t := by dsimp only [dats]
/-- A point leaves window 4 with its block. -/
theorem after0_4 (c : Dev nD) (t : Fin cfg0.N) : (dats m 0 c).after 4 t = iblk m c 4 t := by dsimp only [dats]
/-- A point leaves window 5 with its block. -/
theorem after0_5 (c : Dev nD) (t : Fin cfg0.N) : (dats m 0 c).after 5 t = iblk m c 5 t := by dsimp only [dats]
/-- A point leaves window 6 with its block. -/
theorem after0_6 (c : Dev nD) (t : Fin cfg0.N) : (dats m 0 c).after 6 t = iblk m c 6 t := by dsimp only [dats]
/-- A point leaves window 7 with its block. -/
theorem after0_7 (c : Dev nD) (t : Fin cfg0.N) : (dats m 0 c).after 7 t = iblk m c 7 t := by dsimp only [dats]
/-- A point leaves window 8 with its block. -/
theorem after0_8 (c : Dev nD) (t : Fin cfg0.N) : (dats m 0 c).after 8 t = iblk m c 8 t := by dsimp only [dats]
/-- A point leaves window 9 with its block. -/
theorem after0_9 (c : Dev nD) (t : Fin cfg0.N) : (dats m 0 c).after 9 t = iblk m c 9 t := by dsimp only [dats]
/-- A point leaves window 10 with its block. -/
theorem after0_10 (c : Dev nD) (t : Fin cfg0.N) : (dats m 0 c).after 10 t = iblk m c 10 t := by dsimp only [dats]
/-- A point leaves window 11 with its block. -/
theorem after0_11 (c : Dev nD) (t : Fin cfg0.N) : (dats m 0 c).after 11 t = iblk m c 11 t := by dsimp only [dats]
/-- A point leaves window 12 with its block. -/
theorem after0_12 (c : Dev nD) (t : Fin cfg0.N) : (dats m 0 c).after 12 t = iblk m c 12 t := by dsimp only [dats]
/-- A point leaves window 13 with its block. -/
theorem after0_13 (c : Dev nD) (t : Fin cfg0.N) : (dats m 0 c).after 13 t = iblk m c 13 t := by dsimp only [dats]
/-- A point leaves window 14 with its block. -/
theorem after0_14 (c : Dev nD) (t : Fin cfg0.N) : (dats m 0 c).after 14 t = iblk m c 14 t := by dsimp only [dats]
/-- A point leaves window 15 with its block. -/
theorem after0_15 (c : Dev nD) (t : Fin cfg0.N) : (dats m 0 c).after 15 t = iblk m c 15 t := by dsimp only [dats]
/-- A point leaves window 16 with its block. -/
theorem after0_16 (c : Dev nD) (t : Fin cfg0.N) : (dats m 0 c).after 16 t = iblk m c 16 t := by dsimp only [dats]
/-- A point leaves window 17 with its block. -/
theorem after0_17 (c : Dev nD) (t : Fin cfg0.N) : (dats m 0 c).after 17 t = iblk m c 17 t := by dsimp only [dats]
/-- A point leaves window 18 with its block. -/
theorem after0_18 (c : Dev nD) (t : Fin cfg0.N) : (dats m 0 c).after 18 t = iblk m c 18 t := by dsimp only [dats]
/-- A point leaves window 19 with its block. -/
theorem after0_19 (c : Dev nD) (t : Fin cfg0.N) : (dats m 0 c).after 19 t = iblk m c 19 t := by dsimp only [dats]
/-- A point leaves window 20 with what it computed. -/
theorem after0_20 (c : Dev nD) (t : Fin cfg0.N) : (dats m 0 c).after 20 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds the block of window 1 in it. -/
theorem before0_1 (c : Dev nD) (t : Fin cfg0.N) (d) : (dats m 0 c).before 1 t d = iblk m c 1 t :=
  before0_1_of m (dats m 0 c) (A_eq m c 1) (after0_1 m c) t d
/-- A point finds the block of window 2 in it. -/
theorem before0_2 (c : Dev nD) (t : Fin cfg0.N) (d) : (dats m 0 c).before 2 t d = iblk m c 2 t :=
  before0_2_of m (dats m 0 c) (A_eq m c 2) (after0_2 m c) t d
/-- A point finds the block of window 3 in it. -/
theorem before0_3 (c : Dev nD) (t : Fin cfg0.N) (d) : (dats m 0 c).before 3 t d = iblk m c 3 t :=
  before0_3_of m (dats m 0 c) (A_eq m c 3) (after0_3 m c) t d
/-- A point finds the block of window 4 in it. -/
theorem before0_4 (c : Dev nD) (t : Fin cfg0.N) (d) : (dats m 0 c).before 4 t d = iblk m c 4 t :=
  before0_4_of m (dats m 0 c) (A_eq m c 4) (after0_4 m c) t d
/-- A point finds the block of window 5 in it. -/
theorem before0_5 (c : Dev nD) (t : Fin cfg0.N) (d) : (dats m 0 c).before 5 t d = iblk m c 5 t :=
  before0_5_of m (dats m 0 c) (A_eq m c 5) (after0_5 m c) t d
/-- A point finds the block of window 6 in it. -/
theorem before0_6 (c : Dev nD) (t : Fin cfg0.N) (d) : (dats m 0 c).before 6 t d = iblk m c 6 t :=
  before0_6_of m (dats m 0 c) (A_eq m c 6) (after0_6 m c) t d
/-- A point finds the block of window 7 in it. -/
theorem before0_7 (c : Dev nD) (t : Fin cfg0.N) (d) : (dats m 0 c).before 7 t d = iblk m c 7 t :=
  before0_7_of m (dats m 0 c) (A_eq m c 7) (after0_7 m c) t d
/-- A point finds the block of window 8 in it. -/
theorem before0_8 (c : Dev nD) (t : Fin cfg0.N) (d) : (dats m 0 c).before 8 t d = iblk m c 8 t :=
  before0_8_of m (dats m 0 c) (A_eq m c 8) (after0_8 m c) t d
/-- A point finds the block of window 9 in it. -/
theorem before0_9 (c : Dev nD) (t : Fin cfg0.N) (d) : (dats m 0 c).before 9 t d = iblk m c 9 t :=
  before0_9_of m (dats m 0 c) (A_eq m c 9) (after0_9 m c) t d
/-- A point finds the block of window 10 in it. -/
theorem before0_10 (c : Dev nD) (t : Fin cfg0.N) (d) : (dats m 0 c).before 10 t d = iblk m c 10 t :=
  before0_10_of m (dats m 0 c) (A_eq m c 10) (after0_10 m c) t d
/-- A point finds the block of window 11 in it. -/
theorem before0_11 (c : Dev nD) (t : Fin cfg0.N) (d) : (dats m 0 c).before 11 t d = iblk m c 11 t :=
  before0_11_of m (dats m 0 c) (A_eq m c 11) (after0_11 m c) t d
/-- A point finds the block of window 12 in it. -/
theorem before0_12 (c : Dev nD) (t : Fin cfg0.N) (d) : (dats m 0 c).before 12 t d = iblk m c 12 t :=
  before0_12_of m (dats m 0 c) (A_eq m c 12) (after0_12 m c) t d
/-- A point finds the block of window 13 in it. -/
theorem before0_13 (c : Dev nD) (t : Fin cfg0.N) (d) : (dats m 0 c).before 13 t d = iblk m c 13 t :=
  before0_13_of m (dats m 0 c) (A_eq m c 13) (after0_13 m c) t d
/-- A point finds the block of window 14 in it. -/
theorem before0_14 (c : Dev nD) (t : Fin cfg0.N) (d) : (dats m 0 c).before 14 t d = iblk m c 14 t :=
  before0_14_of m (dats m 0 c) (A_eq m c 14) (after0_14 m c) t d
/-- A point finds the block of window 15 in it. -/
theorem before0_15 (c : Dev nD) (t : Fin cfg0.N) (d) : (dats m 0 c).before 15 t d = iblk m c 15 t :=
  before0_15_of m (dats m 0 c) (A_eq m c 15) (after0_15 m c) t d
/-- A point finds the block of window 16 in it. -/
theorem before0_16 (c : Dev nD) (t : Fin cfg0.N) (d) : (dats m 0 c).before 16 t d = iblk m c 16 t :=
  before0_16_of m (dats m 0 c) (A_eq m c 16) (after0_16 m c) t d
/-- A point finds the block of window 17 in it. -/
theorem before0_17 (c : Dev nD) (t : Fin cfg0.N) (d) : (dats m 0 c).before 17 t d = iblk m c 17 t :=
  before0_17_of m (dats m 0 c) (A_eq m c 17) (after0_17 m c) t d
/-- A point finds the block of window 18 in it. -/
theorem before0_18 (c : Dev nD) (t : Fin cfg0.N) (d) : (dats m 0 c).before 18 t d = iblk m c 18 t :=
  before0_18_of m (dats m 0 c) (A_eq m c 18) (after0_18 m c) t d
/-- A point finds the block of window 19 in it. -/
theorem before0_19 (c : Dev nD) (t : Fin cfg0.N) (d) : (dats m 0 c).before 19 t d = iblk m c 19 t :=
  before0_19_of m (dats m 0 c) (A_eq m c 19) (after0_19 m c) t d

/-- What a point returns for window 0 is its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
/-- What a point returns for window 1 is its block. -/
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
/-- What a point returns for window 2 is its block. -/
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
/-- What a point returns for window 3 is its block. -/
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
/-- What a point returns for window 4 is its block. -/
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
/-- What a point returns for window 5 is its block. -/
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
/-- What a point returns for window 6 is its block. -/
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
/-- What a point returns for window 7 is its block. -/
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
/-- What a point returns for window 8 is its block. -/
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
/-- What a point returns for window 9 is its block. -/
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
/-- What a point returns for window 10 is its block. -/
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]
/-- What a point returns for window 11 is its block. -/
theorem leaves0_11 (c : Dev nD) (t : Fin cfg0.N) : (dats m 0 c).leavesExact 11 t = owns (c : Thread nD τ) (ms0_11 t) fullShare (iblk m c 11 t) := by
  unfold Dat.leavesExact; rw [liveAt0_11 t, after0_11]
/-- What a point returns for window 12 is its block. -/
theorem leaves0_12 (c : Dev nD) (t : Fin cfg0.N) : (dats m 0 c).leavesExact 12 t = owns (c : Thread nD τ) (ms0_12 t) fullShare (iblk m c 12 t) := by
  unfold Dat.leavesExact; rw [liveAt0_12 t, after0_12]
/-- What a point returns for window 13 is its block. -/
theorem leaves0_13 (c : Dev nD) (t : Fin cfg0.N) : (dats m 0 c).leavesExact 13 t = owns (c : Thread nD τ) (ms0_13 t) fullShare (iblk m c 13 t) := by
  unfold Dat.leavesExact; rw [liveAt0_13 t, after0_13]
/-- What a point returns for window 14 is its block. -/
theorem leaves0_14 (c : Dev nD) (t : Fin cfg0.N) : (dats m 0 c).leavesExact 14 t = owns (c : Thread nD τ) (ms0_14 t) fullShare (iblk m c 14 t) := by
  unfold Dat.leavesExact; rw [liveAt0_14 t, after0_14]
/-- What a point returns for window 15 is its block. -/
theorem leaves0_15 (c : Dev nD) (t : Fin cfg0.N) : (dats m 0 c).leavesExact 15 t = owns (c : Thread nD τ) (ms0_15 t) fullShare (iblk m c 15 t) := by
  unfold Dat.leavesExact; rw [liveAt0_15 t, after0_15]
/-- What a point returns for window 16 is its block. -/
theorem leaves0_16 (c : Dev nD) (t : Fin cfg0.N) : (dats m 0 c).leavesExact 16 t = owns (c : Thread nD τ) (ms0_16 t) fullShare (iblk m c 16 t) := by
  unfold Dat.leavesExact; rw [liveAt0_16 t, after0_16]
/-- What a point returns for window 17 is its block. -/
theorem leaves0_17 (c : Dev nD) (t : Fin cfg0.N) : (dats m 0 c).leavesExact 17 t = owns (c : Thread nD τ) (ms0_17 t) fullShare (iblk m c 17 t) := by
  unfold Dat.leavesExact; rw [liveAt0_17 t, after0_17]
/-- What a point returns for window 18 is its block. -/
theorem leaves0_18 (c : Dev nD) (t : Fin cfg0.N) : (dats m 0 c).leavesExact 18 t = owns (c : Thread nD τ) (ms0_18 t) fullShare (iblk m c 18 t) := by
  unfold Dat.leavesExact; rw [liveAt0_18 t, after0_18]
/-- What a point returns for window 19 is its block. -/
theorem leaves0_19 (c : Dev nD) (t : Fin cfg0.N) : (dats m 0 c).leavesExact 19 t = owns (c : Thread nD τ) (ms0_19 t) fullShare (iblk m c 19 t) := by
  unfold Dat.leavesExact; rw [liveAt0_19 t, after0_19]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 13 := lt_of_lt_of_eq t.isLt (show cfg0.N = 13 from N_0)
  by_cases h0 : t.val < 12
  · by_cases h1 : t.val % 13 = 0
    · by_cases h2 : t.val % 13 = 12
      · exfalso; omega
      · rw [leaves0_0 m c t, leaves0_1 m c t, leaves0_2 m c t, leaves0_3 m c t, leaves0_4 m c t, leaves0_5 m c t, leaves0_6 m c t, leaves0_7 m c t, leaves0_8 m c t, leaves0_9 m c t,
          leaves0_10 m c t, leaves0_11 m c t, leaves0_12 m c t, leaves0_13 m c t, leaves0_14 m c t, leaves0_15 m c t, leaves0_16 m c t, leaves0_17 m c t, leaves0_18 m c t, leaves0_19 m c t]
        rw [Dat.leavesExact_idle (dats m 0 c) 20 t (idleAt0_20_A t ((hcond0_0 t).mpr h0) ((hcond0_1 t).mpr h1) (fun h => h2 ((hcond0_2 t).mp h))) (noFlush0_20_A t ((hcond0_0 t).mpr h0) ((hcond0_1 t).mpr h1) (fun h => h2 ((hcond0_2 t).mp h)))]
        by_cases hz : t.val = 0
        · rw [PhiS_castSucc m c t, PhiS_zero m c _ _ hz, PhiA0_eq]
          rw [outsAt0_A m c t h0 h1 h2]
          unfold sout0_A_1; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, ⟨%fT0, HS0⟩, ⟨%es1, HS1⟩, HS2, HS3⟩
          isplitl [HS0 HS1 HS2 HS3 Hg]
          · isplitl [HS0 HS1 HS2 HS3]
            · isplitl [HS0]
              · iexists _; unfold owns; iexists _; isplitr
                swap; · iexact HS0
                ipureintro; rfl
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          iexists _; iexact H20
        · exfalso; have hN : t.val < 13 := lt_of_lt_of_eq t.isLt (show cfg0.N = 13 from N_0); omega
    · by_cases h2 : t.val % 13 = 12
      · exfalso; omega
      · rw [leaves0_0 m c t, leaves0_1 m c t, leaves0_2 m c t, leaves0_3 m c t, leaves0_4 m c t, leaves0_5 m c t, leaves0_6 m c t, leaves0_7 m c t, leaves0_8 m c t, leaves0_9 m c t,
          leaves0_10 m c t, leaves0_11 m c t, leaves0_12 m c t, leaves0_13 m c t, leaves0_14 m c t, leaves0_15 m c t, leaves0_16 m c t, leaves0_17 m c t, leaves0_18 m c t, leaves0_19 m c t]
        rw [Dat.leavesExact_idle (dats m 0 c) 20 t (idleAt0_20_B t ((hcond0_0 t).mpr h0) (fun h => h1 ((hcond0_1 t).mp h)) (fun h => h2 ((hcond0_2 t).mp h))) (noFlush0_20_B t ((hcond0_0 t).mpr h0) (fun h => h1 ((hcond0_1 t).mp h)) (fun h => h2 ((hcond0_2 t).mp h)))]
        by_cases hz : t.val = 0
        · exfalso; have hN : t.val < 13 := lt_of_lt_of_eq t.isLt (show cfg0.N = 13 from N_0); omega
        · rw [PhiS_castSucc m c t, PhiS_pos m c _ _ hz]
          rw [outsAt0_B m c t h0 h1 h2]
          unfold sout0_B_1; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2.2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexact H20
          isplitl [HS0]; · iexact HS0
          isplitl [HS1]; · iexact HS1
          isplitl [HS2]; · iexact HS2
          isplitl [HS3]; · iexact HS3
          iintro ⟨H0, H1, H2, H3, H4, H5, H6, H7, H8, H9, H10, H11, H12, H13, H14, H15, H16, H17, H18, H19, H20, ⟨%fT0, HS0⟩, ⟨%es1, HS1⟩, HS2, HS3⟩
          isplitl [HS0 HS1 HS2 HS3 Hg]
          · isplitl [HS0 HS1 HS2 HS3]
            · isplitl [HS0]
              · iexists _; unfold owns; iexists _; isplitr
                swap; · iexact HS0
                ipureintro; rfl
              isplitl [HS1]
              · unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS2]
              · iexact HS2
              iexact HS3
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          iexists _; iexact H20
  · by_cases h2 : t.val % 13 = 12
    · rw [leaves0_0 m c t, leaves0_1 m c t, leaves0_2 m c t, leaves0_3 m c t, leaves0_4 m c t, leaves0_5 m c t, leaves0_6 m c t, leaves0_7 m c t, leaves0_8 m c t, leaves0_9 m c t,
        leaves0_10 m c t, leaves0_11 m c t, leaves0_12 m c t, leaves0_13 m c t, leaves0_14 m c t, leaves0_15 m c t, leaves0_16 m c t, leaves0_17 m c t, leaves0_18 m c t, leaves0_19 m c t]
      rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_2 t).mpr h2)], after0_20]
      by_cases hz : t.val = 0
      · exfalso; have hN : t.val < 13 := lt_of_lt_of_eq t.isLt (show cfg0.N = 13 from N_0); omega
      · rw [PhiS_castSucc m c t, PhiS_pos m c _ _ hz]
        rw [outsAt0_C m c t h0 h2]
        unfold out0_C_20 sout0_C_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexists _; iexact H20
        isplitl [HS0]; · iexact HS0
        isplitl [HS1]; · iexact HS1
        isplitl [HS2]; · iexact HS2
        isplitl [HS3]; · iexact HS3
        iintro ⟨H0, H1, H2, H3, H4, H5, H6, H7, H8, H9, H10, H11, H12, H13, H14, H15, H16, H17, H18, H19, ⟨%e20, H20⟩, HS0, HS1, ⟨%fT2, HS2⟩, ⟨%fT3, HS3⟩⟩
        isplitl [HS0 HS1 HS2 HS3 Hg]
        · isplitl [HS0 HS1 HS2 HS3]
          · isplitl [HS0]
            · iexact HS0
            isplitl [HS1]
            · iexact HS1
            isplitl [HS2]
            · iexists _; unfold owns; iexists _; isplitr
              swap; · iexact HS2
              ipureintro; rfl
            iexists _; unfold owns; iexists _; isplitr
            swap; · iexact HS3
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        unfold owns; iexists _; isplitr
        swap; · iexact H20
        ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 13 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.Glcm.Net.lean ====
/- The convolution network of the block at one pixel, as sums over channels of extended reals: what both programs are
   shown to compute. -/
module

public import Idealize.ShloMosaic.Lib.ValueIdx
public import Idealize.ShloMosaic.Lib.IdealHost

@[expose] public section

noncomputable section

namespace Cert.Glcm

open Idealize.ShloMosaic Idealize.ShloMosaic.ValueIdx

/-- The standard deviation the normalisations divide by. -/
def dev : EReal := Ideal.sqrt (FloatOps.ofBits (F := Ideal) .f32 0x3F8020C5#32)

/-- `y` scaled by `g` over the deviation and shifted by `b`. -/
def norm (y g b : EReal) : EReal := y * (g * Ideal.div 1 dev) + b

/-- The activation: a value times its logistic. -/
def silu (z : EReal) : EReal := z * Ideal.logistic z

/-- A normalised and activated value. -/
def act (y g b : EReal) : EReal := silu (norm y g b)

/-- A pointwise convolution over the image channels and the four texture channels. -/
def mix (W : Fin 48 → Fin 100 → EReal) (g b : Fin 48 → EReal) (X : Fin 96 → EReal) (T : Fin 4 → EReal) (o : Fin 48) : EReal :=
  act (∑ c : Fin 96, W o (Fin.castAdd 4 c) * X c + ∑ r : Fin 4, W o (Fin.natAdd 96 r) * T r) (g o) (b o)

/-- The bottleneck's first pointwise convolution. -/
def nar (W : Fin 24 → Fin 48 → EReal) (g b : Fin 24 → EReal) (H : Fin 48 → EReal) (k : Fin 24) : EReal :=
  act (∑ o : Fin 48, W k o * H o) (g k) (b k)

/-- The bottleneck's three by three convolution over nine neighbours. -/
def wid (W : Fin 48 → Fin 24 → Fin 9 → EReal) (g b : Fin 48 → EReal) (P : Fin 9 → Fin 24 → EReal) (o : Fin 48) : EReal :=
  act (∑ k : Fin 9, ∑ i : Fin 24, W o i k * P k i) (g o) (b o)

/-- The last pointwise convolution over the two halves. -/
def fin (W : Fin 96 → Fin 96 → EReal) (g b : Fin 96 → EReal) (A B : Fin 48 → EReal) (o : Fin 96) : EReal :=
  act (∑ i : Fin 48, W o (Fin.castAdd 48 i) * A i + ∑ i : Fin 48, W o (Fin.natAdd 48 i) * B i) (g o) (b o)

/-- The narrow channels at row `a`, column `b` of the image with a border of one pixel of zeros. -/
def edge (M : Fin 24 → ℕ → ℕ → EReal) (i : Fin 24) (a b : ℕ) : EReal :=
  if 1 ≤ a ∧ a ≤ 56 ∧ 1 ≤ b ∧ b ≤ 56 then M i (a - 1) (b - 1) else 0

/-- The whole block at output channel `o`, row `h` and column `w`, of an image `X` and texture channels `T`. -/
def net (W1 : Fin 48 → Fin 100 → EReal) (g1 b1 : Fin 48 → EReal) (W2 : Fin 48 → Fin 100 → EReal) (g2 b2 : Fin 48 → EReal)
    (Wm : Fin 24 → Fin 48 → EReal) (gm bm : Fin 24 → EReal) (Wn : Fin 48 → Fin 24 → Fin 9 → EReal) (gn bn : Fin 48 → EReal)
    (W3 : Fin 96 → Fin 96 → EReal) (g3 b3 : Fin 96 → EReal) (X : Fin 96 → ℕ → ℕ → EReal) (T : Fin 4 → ℕ → ℕ → EReal)
    (o : Fin 96) (h w : ℕ) : EReal :=
  let H : ℕ → ℕ → Fin 48 → EReal := fun h w => mix W1 g1 b1 (fun c => X c h w) (fun r => T r h w)
  let M : Fin 24 → ℕ → ℕ → EReal := fun i h w => nar Wm gm bm (H h w) i
  fin W3 g3 b3 (fun j => H h w j + wid Wn gn bn (fun k i => edge M i (h + k.val / 3) (w + k.val % 3)) j)
    (mix W2 g2 b2 (fun c => X c h w) (fun r => T r h w)) o

/-- The deviation is a positive real. -/
theorem dev_real : ∃ s : ℝ, 0 < s ∧ dev = (s : EReal) := by
  have h : (FloatOps.ofBits (F := Ideal) .f32 0x3F8020C5#32 : EReal) = (((8396997 : ℝ) * (2 : ℝ) ^ (-23 : ℤ) : ℝ) : EReal) := by
    show Ideal.ofBits .f32 0x3F8020C5#32 = _
    simp [Ideal.ofBits, Ideal.ieee]
  have hp : (0 : ℝ) < (8396997 : ℝ) * (2 : ℝ) ^ (-23 : ℤ) := by positivity
  refine ⟨Real.sqrt ((8396997 : ℝ) * (2 : ℝ) ^ (-23 : ℤ)), Real.sqrt_pos.mpr hp, ?_⟩
  rw [dev, h, Ideal.sqrt_coe, if_neg (not_lt.mpr hp.le)]

/-- Dividing first and scaling after is the same normalisation. -/
theorem norm_eq (y g b : EReal) : Ideal.div y dev * g + b = norm y g b := by
  obtain ⟨s, hs, hd⟩ := dev_real
  rw [norm, hd, Ideal.div_coe hs.ne', Ideal.div_coe hs.ne', one_mul, mul_assoc, mul_comm g]

end Cert.Glcm
-- ==== Proof.Glcm.Conv.lean ====
module

public import proofs.«01_k».proof.Proof.Glcm.Net
public import proofs.«01_k».proof.Proof.Gen.KernelIdeal.Skeleton
public import Idealize.ShloMosaic.Lib.ValueLayout
public import Idealize.ShloMosaic.Lib.MatmulPlain
public import Idealize.ShloMosaic.Lib.Routing.Words

/-! The values the last grid point computes, read at one lane: each is the network of `Net` at that lane. -/

@[expose] public section

noncomputable section

namespace Cert.KernelIdeal.Glcm

open Idealize.ShloMosaic Idealize.ShloMosaic.ValueIdx Idealize.ShloMosaic.Ideal Cert.KernelIdeal.Gen Cert.Glcm

/-- A matrix product into zeros, read at a row and a column. -/
theorem mm_at {M K N : ℕ} (d : DotDims ⟨2, ![M, K]⟩ ⟨2, ![K, N]⟩ ⟨2, ![M, N]⟩) (hd : d = DotDims.plain M K N)
    (a : FVec Ideal ⟨2, ![M, K]⟩ .f32) (b : FVec Ideal ⟨2, ![K, N]⟩ .f32) (r : Fin M) (c : Fin N) :
    matmul d none a b (constant ⟨2, ![M, N]⟩ .f32 0x00000000#32) (ix2 r c) = ∑ k : Fin K, a (ix2 r k) * b (ix2 k c) := by
  subst hd
  refine (Ideal.matmul_plain_apply none a b _ r c).trans ?_
  rw [show constant (F := Ideal) ⟨2, ![M, N]⟩ .f32 0x00000000#32 (ix2 r c) = 0 from ofBits_zero_f32, zero_add]

/-- A column spread over the lanes, read at a row and a lane. -/
theorem col_at {M N : ℕ} (hM : 1 < M) {α : Type} (h : Shape.Broadcasts ⟨2, ![M, 1]⟩ ⟨2, ![M, N]⟩) (x : (⟨2, ![M, 1]⟩ : Shape).Idx → α) (r : Fin M) (c : Fin N) :
    broadcastTo ⟨2, ![M, N]⟩ x h (ix2 r c) = x (ix2 r 0) := by
  refine broadcastTo_apply x h _ _ fun a => ?_
  match a with
  | ⟨0, _⟩ => exact (if_neg (by show ¬ M = 1; omega)).symm
  | ⟨1, _⟩ => exact (if_pos rfl).symm

/-- The normalisation and activation of a product, read at a row and a lane. -/
theorem act_at {M N : ℕ} (hM : 1 < M) (y : FVec Ideal ⟨2, ![M, N]⟩ .f32) (g b : FVec Ideal ⟨2, ![M, 1]⟩ .f32)
    (h : Shape.Broadcasts ⟨2, ![M, 1]⟩ ⟨2, ![M, N]⟩) (r : Fin M) (c : Fin N) :
    mulf (addf (mulf y (broadcastTo ⟨2, ![M, N]⟩ (mulf g (broadcast ⟨2, ![M, 1]⟩ (Scalar.divf (Scalar.ofBits (F := Ideal) .f32 0x3F800000#32)
          (Scalar.sqrt (Scalar.ofBits (F := Ideal) .f32 0x3F8020C5#32))))) h)) (broadcastTo ⟨2, ![M, N]⟩ b h))
        (logistic (addf (mulf y (broadcastTo ⟨2, ![M, N]⟩ (mulf g (broadcast ⟨2, ![M, 1]⟩ (Scalar.divf (Scalar.ofBits (F := Ideal) .f32 0x3F800000#32)
          (Scalar.sqrt (Scalar.ofBits (F := Ideal) .f32 0x3F8020C5#32))))) h)) (broadcastTo ⟨2, ![M, N]⟩ b h))) (ix2 r c)
      = act (y (ix2 r c)) (g (ix2 r 0)) (b (ix2 r 0)) := by
  have e : addf (mulf y (broadcastTo ⟨2, ![M, N]⟩ (mulf g (broadcast ⟨2, ![M, 1]⟩ (Scalar.divf (Scalar.ofBits (F := Ideal) .f32 0x3F800000#32)
      (Scalar.sqrt (Scalar.ofBits (F := Ideal) .f32 0x3F8020C5#32))))) h)) (broadcastTo ⟨2, ![M, N]⟩ b h) (ix2 r c)
      = norm (y (ix2 r c)) (g (ix2 r 0)) (b (ix2 r 0)) := by
    rw [addf_apply, mulf_apply, col_at hM h, col_at hM h, mulf_apply]
    have e1 : (Scalar.divf (Scalar.ofBits (F := Ideal) .f32 0x3F800000#32) (Scalar.sqrt (Scalar.ofBits (F := Ideal) .f32 0x3F8020C5#32)) : EReal)
        = Ideal.div 1 dev := congrArg (Ideal.div · dev) ofBits_one_f32
    exact congrArg (fun s => y (ix2 r c) * (g (ix2 r 0) * s) + b (ix2 r 0)) e1
  exact congrArg silu e

variable (v6 : Vec Ideal S96x3248 .f32) (v18 : Vec Ideal S4x3248 .f32)

/-- The scaled texture channels at a lane. -/
def tex (v18 : Vec Ideal S4x3248 .f32) (r : Fin 4) (p : Fin 3248) : EReal := k0_pay3265 v18 (ix2 r p)

/-- The first mixing convolution at a lane. -/
theorem pay3266_at (w : Vec Ideal S48x96 .f32) (t : Vec Ideal S48x4 .f32) (g b : Vec Ideal S48x1 .f32) (o : Fin 48) (p : Fin 3248) :
    k0_pay3266 v6 v18 w t g b (ix2 o p)
      = act (∑ c : Fin 96, w (ix2 o c) * v6 (ix2 c p) + ∑ r : Fin 4, t (ix2 o r) * tex v18 r p) (g (ix2 o 0)) (b (ix2 o 0)) := by
  unfold k0_pay3266 k0_pay3264
  simp only [shapeCast_self]
  refine (act_at (by decide) _ g b broadcasts_S48x1_S48x3248 o p).trans ?_
  rw [addf_apply, mm_at dot_S48x96_S96x3248_S48x3248_1_0_0_1_n_n rfl, mm_at dot_S48x4_S4x3248_S48x3248_1_0_0_1_n_n rfl]
  rfl

/-- The word that decides whether a lane is a pixel of the image, from its remainder by 58. -/
def maskWord (r : BitVec 32) : BitVec 1 :=
  IntOp.cmpi .slt (Scalar.select (IntOp.andi (IntOp.xori (IntOp.cmpi .slt r 0#32)
    (Scalar.cmpi .slt (Scalar.select (Scalar.cmpi .eq 58#32 0#32) 1#32 58#32) 0#32)) (IntOp.cmpi .ne r 0#32))
    (IntOp.addi r (Scalar.select (Scalar.cmpi .eq 58#32 0#32) 1#32 58#32)) r) 56#32

/-- The first 56 remainders are pixels. -/
theorem maskWord_eq : ∀ m : Fin 58, maskWord (BitVec.ofNat 32 m.val) = if m.val < 56 then 1#1 else 0#1 := by decide

/-- The lanes come in rows of 58 of which the first 56 are pixels. -/
theorem mask_at (p : ℕ) (hp : p < 3248) (a b : EReal) :
    Scalar.select (maskWord (IntOp.remsi .vector (BitVec.ofNat 32 p) (Scalar.select (Scalar.cmpi .eq 58#32 0#32) 1#32 58#32))) a b
      = if p % 58 < 56 then a else b := by
  have e : IntOp.remsi .vector (BitVec.ofNat 32 p) (Scalar.select (Scalar.cmpi .eq 58#32 0#32) 1#32 58#32) = BitVec.ofNat 32 (p % 58) :=
    Routing.remsi_word .vector (by omega) (by decide) (by decide)
  rw [e, maskWord_eq ⟨p % 58, Nat.mod_lt _ (by decide)⟩]
  by_cases h : p % 58 < 56
  · rw [if_pos h, if_pos h]; rfl
  · rw [if_neg h, if_neg h]; rfl

/-- The narrow convolution at a lane, zero off the image. -/
theorem pay3267_at (v41 : FVec Ideal S48x3248 .f32) (w : Vec Ideal S24x48 .f32) (g b : Vec Ideal S24x1 .f32) (k : Fin 24) (p : Fin 3248) :
    k0_pay3267 v41 w g b (ix2 k p)
      = if p.val % 58 < 56 then act (∑ o : Fin 48, w (ix2 k o) * v41 (ix2 o p)) (g (ix2 k 0)) (b (ix2 k 0)) else 0 := by
  unfold k0_pay3267
  simp only [shapeCast_self]
  rw [select_apply, broadcastTo_1b_ab_apply, act_at (by decide) _ g b broadcasts_S24x1_S24x3248 k p,
    mm_at dot_S24x48_S48x3248_S24x3248_1_0_0_1_n_n rfl]
  have e : (BitVec.ofNat 32 (0 * 3248 + p.val)) = BitVec.ofNat 32 p.val := by rw [zero_mul, zero_add]
  refine (congrArg (fun n => Scalar.select (maskWord (IntOp.remsi .vector n (Scalar.select (Scalar.cmpi .eq 58#32 0#32) 1#32 58#32))) _ _) e).trans ?_
  refine (mask_at p.val p.isLt _ _).trans ?_
  rw [broadcast_apply, show Scalar.ofBits (F := Ideal) .f32 0x00000000#32 = (0 : EReal) from ofBits_zero_f32]

/-- The wide convolution added to its input, at a lane. -/
theorem pay3280_at (v41 : FVec Ideal S48x3248 .f32) (v125 : Vec Ideal S216x3248 .f32) (w : Vec Ideal S48x216 .f32) (g b : Vec Ideal S48x1 .f32) (o : Fin 48) (p : Fin 3248) :
    k0_pay3280 v41 v125 w g b (ix2 o p)
      = v41 (ix2 o p) + act (∑ j : Fin 216, w (ix2 o j) * v125 (ix2 j p)) (g (ix2 o 0)) (b (ix2 o 0)) := by
  unfold k0_pay3280
  simp only [shapeCast_self]
  rw [addf_apply]
  refine congrArg _ ((act_at (by decide) _ g b broadcasts_S48x1_S48x3248 o p).trans ?_)
  rw [mm_at dot_S48x216_S216x3248_S48x3248_1_0_0_1_n_n rfl]

/-- The result at a lane. -/
theorem pay1_at (v7 : FVec Ideal S96x3248 .f32) (v20 : FVec Ideal S4x3248 .f32) (v143 : FVec Ideal S48x3248 .f32) (w : Vec Ideal S48x96 .f32)
    (t : Vec Ideal S48x4 .f32) (g b : Vec Ideal S48x1 .f32) (wa wb : Vec Ideal S96x48 .f32) (g' b' : Vec Ideal S96x1 .f32) (o : Fin 96) (p : Fin 3248) :
    k0_pay1 (k0_pay3281 v7 v20 v143 w t g b wa wb g') b' (ix2 o p)
      = act (∑ i : Fin 48, wa (ix2 o i) * v143 (ix2 i p)
          + ∑ i : Fin 48, wb (ix2 o i) * act (∑ c : Fin 96, w (ix2 i c) * v7 (ix2 c p) + ∑ r : Fin 4, t (ix2 i r) * v20 (ix2 r p)) (g (ix2 i 0)) (b (ix2 i 0)))
          (g' (ix2 o 0)) (b' (ix2 o 0)) := by
  unfold k0_pay1 k0_pay3281
  simp only [shapeCast_self]
  refine (act_at (by decide) _ g' b' broadcasts_S96x1_S96x3248 o p).trans ?_
  rw [addf_apply, mm_at dot_S96x48_S48x3248_S96x3248_1_0_0_1_n_n rfl, mm_at dot_S96x48_S48x3248_S96x3248_1_0_0_1_n_n rfl]
  refine congrArg (fun s => act (_ + s) _ _) (Finset.sum_congr rfl fun i _ => congrArg _ ((act_at (by decide) _ g b broadcasts_S48x1_S48x3248 i p).trans ?_))
  rw [addf_apply, mm_at dot_S48x96_S96x3248_S48x3248_1_0_0_1_n_n rfl, mm_at dot_S48x4_S4x3248_S48x3248_1_0_0_1_n_n rfl]

end Cert.KernelIdeal.Glcm
-- ==== Proof.Glcm.Chunk.lean ====
module

public import proofs.«01_k».proof.Proof.Gen.KernelIdeal.Skeleton

/-! One column chunk of the co-occurrence step, stated once for every width: nine neighbour vectors in, four
features per lane out. -/

@[expose] public section

noncomputable section

namespace Cert.KernelIdeal.Glcm

open Idealize.ShloMosaic Cert.KernelIdeal.Gen

variable {F : FTy → Type} [FloatOps F] [Named F]

/-- The nine neighbours as a function of their number. -/
def nine {α : Type} (n0 n1 n2 n3 n4 n5 n6 n7 n8 : α) : Nat → α
  | 0 => n0 | 1 => n1 | 2 => n2 | 3 => n3 | 4 => n4 | 5 => n5 | 6 => n6 | 7 => n7 | _ => n8

/-- The first neighbour of each of the twenty pairs. -/
def pa : Nat → Nat
  | 0 => 0 | 1 => 1 | 2 => 3 | 3 => 4 | 4 => 6 | 5 => 7
  | 6 => 0 | 7 => 1 | 8 => 2 | 9 => 3 | 10 => 4 | 11 => 5
  | 12 => 0 | 13 => 1 | 14 => 3 | 15 => 4
  | 16 => 1 | 17 => 2 | 18 => 4 | _ => 5

/-- The second neighbour of each of the twenty pairs. -/
def pb : Nat → Nat
  | 0 => 1 | 1 => 2 | 2 => 4 | 3 => 5 | 4 => 7 | 5 => 8
  | 6 => 3 | 7 => 4 | 8 => 5 | 9 => 6 | 10 => 7 | 11 => 8
  | 12 => 4 | 13 => 5 | 14 => 7 | 15 => 8
  | 16 => 3 | 17 => 4 | 18 => 6 | _ => 7

variable {s : Shape} (n : Nat → FVec F s .bf16)

/-- The code of pair `k`: eight times its first level plus its second. -/
def binV (k : Nat) : FVec F s .bf16 :=
  addf (mulf (n (pa k)) (broadcast s (Scalar.ofBits .bf16 0x4100#16 : F .bf16))) (n (pb k))

/-- The difference of the levels of pair `k`. -/
def difV (k : Nat) : FVec F s .bf16 := subf (n (pa k)) (n (pb k))

/-- One where two pairs have one code, zero elsewhere. -/
def hitV (k l : Nat) : FVec F s .bf16 :=
  select (cmpf .oeq (binV n k) (binV n l)) (broadcast s (Scalar.ofBits .bf16 0x3F80#16 : F .bf16))
    (broadcast s (Scalar.ofBits .bf16 0x0000#16 : F .bf16))

/-- The running count over the pairs `b, b+1, …` (`c` of them) after pair `k`. -/
def upV (k : Nat) : (c b : Nat) → FVec F s .bf16 → FVec F s .bf16
  | 0, _, x => x
  | c + 1, b, x => upV k c (b + 1) (addf x (hitV n k b))

/-- The running count over the pairs `b, b+1, …` (`c` of them) before pair `k`. -/
def dnV (k : Nat) : (c b : Nat) → FVec F s .bf16 → FVec F s .bf16
  | 0, _, x => x
  | c + 1, b, x => dnV k c (b + 1) (addf x (hitV n b k))

/-- How many of the twenty pairs have the code of pair `k`; `r` is the number of pairs after it. -/
def mulV (k r : Nat) : FVec F s .bf16 :=
  upV n k r (k + 1) (dnV n k k 0 (broadcast s (Scalar.ofBits .bf16 0x3F80#16 : F .bf16)))

/-- The sum of the squared differences of five pairs. -/
def conGrp (g : Nat) : FVec F s .bf16 :=
  addf (addf (addf (addf (mulf (difV n g) (difV n g)) (mulf (difV n (g+1)) (difV n (g+1))))
    (mulf (difV n (g+2)) (difV n (g+2)))) (mulf (difV n (g+3)) (difV n (g+3)))) (mulf (difV n (g+4)) (difV n (g+4)))

/-- The contrast of the lane: all twenty squared differences. -/
def conV : FVec F s .f32 :=
  addf (addf (addf (extf .f32 (conGrp n 0) bitsLt_bf16_f32) (extf .f32 (conGrp n 5) bitsLt_bf16_f32))
    (extf .f32 (conGrp n 10) bitsLt_bf16_f32)) (extf .f32 (conGrp n 15) bitsLt_bf16_f32)

/-- One over one plus the absolute difference of pair `k`. -/
def homTerm (k : Nat) : FVec F s .f32 :=
  reciprocal true (addf (broadcast s (Scalar.ofBits .f32 0x3F800000#32 : F .f32))
    (extf .f32 (absf (difV n k)) bitsLt_bf16_f32))

/-- The running homogeneity over the pairs `b, b+1, …` (`c` of them). -/
def homUp : (c b : Nat) → FVec F s .f32 → FVec F s .f32
  | 0, _, x => x
  | c + 1, b, x => homUp c (b + 1) (addf x (homTerm n b))

/-- The homogeneity of the lane. -/
def homV : FVec F s .f32 := homUp n 19 1 (homTerm n 0)

/-- The sum of four multiplicities. -/
def eneGrp (k : Nat) : FVec F s .bf16 :=
  addf (addf (addf (mulV n k (19 - k)) (mulV n (k+1) (18 - k))) (mulV n (k+2) (17 - k))) (mulV n (k+3) (16 - k))

/-- The energy of the lane: the sum of the multiplicities. -/
def eneV : FVec F s .f32 :=
  addf (addf (addf (addf (extf .f32 (eneGrp n 0) bitsLt_bf16_f32) (extf .f32 (eneGrp n 4) bitsLt_bf16_f32))
    (extf .f32 (eneGrp n 8) bitsLt_bf16_f32)) (extf .f32 (eneGrp n 12) bitsLt_bf16_f32))
    (extf .f32 (eneGrp n 16) bitsLt_bf16_f32)

/-- The smoothed probability of pair `k`. -/
def proV (k r : Nat) : FVec F s .f32 :=
  addf (mulf (extf .f32 (mulV n k r) bitsLt_bf16_f32) (broadcast s (Named.named κ "inv20" 0x3D4CCCCD#32 : F .f32)))
    (broadcast s (Scalar.ofBits .f32 0x358637BD#32 : F .f32))

/-- The running product of the probabilities; `c` pairs left, from pair `b`. -/
def proUp : (c b : Nat) → FVec F s .f32 → FVec F s .f32
  | 0, _, x => x
  | c + 1, b, x => proUp c (b + 1) (mulf x (proV n b c))

/-- The logarithm of the product of the twenty probabilities. -/
def logV : FVec F s .f32 := log (proUp n 19 1 (proV n 0 19))

/-- What a chunk of 512 lanes adds to the running totals. -/
def fb512 (n : Nat → FVec F S8x512 .bf16) : FVec F S4x512 .f32 :=
  concatenate S4x512 0
    [⟨S1x512, shapeCast S1x512 (multiReduction .add [0] S512 (conV n) 0x00000000#32 reduces_S8x512_S512 (.inl rfl) rfl) shapeCasts_S512_S1x512⟩,
     ⟨S1x512, shapeCast S1x512 (multiReduction .add [0] S512 (eneV n) 0x00000000#32 reduces_S8x512_S512 (.inl rfl) rfl) shapeCasts_S512_S1x512⟩,
     ⟨S1x512, shapeCast S1x512 (multiReduction .add [0] S512 (logV n) 0x00000000#32 reduces_S8x512_S512 (.inl rfl) rfl) shapeCasts_S512_S1x512⟩,
     ⟨S1x512, shapeCast S1x512 (multiReduction .add [0] S512 (homV n) 0x00000000#32 reduces_S8x512_S512 (.inl rfl) rfl) shapeCasts_S512_S1x512⟩]
    concatenates_S1x512_S1x512_S1x512_S1x512_S4x512_d0

/-- A chunk of 512 lanes: the running totals with its own features added. -/
def chunk512 (n : Nat → FVec F S8x512 .bf16) (acc : FVec F S4x512 .f32) : FVec F S4x512 .f32 :=
  shapeCast S4x512 (addf acc (fb512 n)) shapeCasts_S4x512_S4x512

/-- What the last chunk, of 176 lanes, adds to the running totals. -/
def fb176 (n : Nat → FVec F S8x176 .bf16) : FVec F S4x176 .f32 :=
  concatenate S4x176 0
    [⟨S1x176, shapeCast S1x176 (multiReduction .add [0] S176 (conV n) 0x00000000#32 reduces_S8x176_S176 (.inl rfl) rfl) shapeCasts_S176_S1x176⟩,
     ⟨S1x176, shapeCast S1x176 (multiReduction .add [0] S176 (eneV n) 0x00000000#32 reduces_S8x176_S176 (.inl rfl) rfl) shapeCasts_S176_S1x176⟩,
     ⟨S1x176, shapeCast S1x176 (multiReduction .add [0] S176 (logV n) 0x00000000#32 reduces_S8x176_S176 (.inl rfl) rfl) shapeCasts_S176_S1x176⟩,
     ⟨S1x176, shapeCast S1x176 (multiReduction .add [0] S176 (homV n) 0x00000000#32 reduces_S8x176_S176 (.inl rfl) rfl) shapeCasts_S176_S1x176⟩]
    concatenates_S1x176_S1x176_S1x176_S1x176_S4x176_d0

/-- The last chunk: the running totals with its own features added. -/
def chunk176 (n : Nat → FVec F S8x176 .bf16) (acc : FVec F S4x176 .f32) : FVec F S4x176 .f32 :=
  shapeCast S4x176 (addf acc (fb176 n)) shapeCasts_S4x176_S4x176

end Cert.KernelIdeal.Glcm
-- ==== Proof.Glcm.Core.lean ====
module

public import proofs.«01_k».proof.Proof.Glcm.Chunk

/-! The arithmetic of the co-occurrence features over the reals: a sum over the sixty-four cells of a histogram of
twenty pairs is a sum over the pairs; the quantiser's two spellings; the four features of one lane. -/

@[expose] public section

noncomputable section

namespace Cert.KernelIdeal.Glcm

open Idealize.ShloMosaic

/-! ### The histogram -/

/-- How many of the twenty pairs of levels `(v, w)` are the pair `(a, b)`. -/
def cnt (v w : ℕ → ℕ) (a b : ℕ) : ℕ := ((Finset.range 20).filter fun k => v k = a ∧ w k = b).card

/-- A sum over the cells of the histogram weighted by its counts is the sum over the pairs. -/
theorem cnt_sum (v w : ℕ → ℕ) (hv : ∀ k, v k < 8) (hw : ∀ k, w k < 8) (f : ℕ → ℕ → ℝ) :
    ∑ a : Fin 8, ∑ b : Fin 8, (cnt v w a b : ℝ) * f a b = ∑ k ∈ Finset.range 20, f (v k) (w k) := by
  have h1 : ∀ a b : Fin 8, (cnt v w a b : ℝ) * f a b
      = ∑ k ∈ Finset.range 20, if v k = a ∧ w k = b then f (v k) (w k) else 0 := by
    intro a b
    rw [cnt, Finset.card_filter]
    push_cast
    rw [Finset.sum_mul]
    refine Finset.sum_congr rfl fun k _ => ?_
    split_ifs with h
    · rw [h.1, h.2, one_mul]
    · rw [zero_mul]
  simp_rw [h1]
  rw [Finset.sum_congr rfl fun a _ => Finset.sum_comm, Finset.sum_comm]
  refine Finset.sum_congr rfl fun k _ => ?_
  rw [Finset.sum_eq_single (⟨v k, hv k⟩ : Fin 8), Finset.sum_eq_single (⟨w k, hw k⟩ : Fin 8)]
  · simp
  · intro b _ hb
    rw [if_neg]
    rintro ⟨-, h⟩
    exact hb (Fin.ext h.symm)
  · simp
  · intro a _ ha
    refine Finset.sum_eq_zero fun b _ => if_neg ?_
    rintro ⟨h, -⟩
    exact ha (Fin.ext h.symm)
  · simp

/-! ### The quantiser -/

/-- The level of a value: its sevenfold, cut to a whole number toward zero, clipped to 0 … 7. -/
def lev (x : EReal) : ℕ :=
  (IntOp.minsi 7#32 (IntOp.maxsi 0#32 (Ideal.fptosi 32 (x * Ideal.ofBits .f32 0x40E00000#32)))).toNat

/-- The level is below eight. -/
theorem lev_lt (x : EReal) : lev x < 8 := by
  unfold lev
  generalize Ideal.fptosi 32 (x * Ideal.ofBits .f32 0x40E00000#32) = t
  rw [IntOp.minsi, IntOp.maxsi]
  have e7 : (7#32).toInt = 7 := rfl
  have e0 : (0#32).toInt = 0 := rfl
  have ht := t.toInt_eq_toNat_cond
  have hl := t.isLt
  simp only [BitVec.slt, decide_eq_true_eq]
  split_ifs at ht ⊢ <;> simp_all <;> omega

/-- The clipped word is the level. -/
theorem lev_word (x : EReal) :
    IntOp.minsi 7#32 (IntOp.maxsi 0#32 (Ideal.fptosi 32 (x * Ideal.ofBits .f32 0x40E00000#32)))
      = BitVec.ofNat 32 (lev x) := by
  unfold lev
  rw [BitVec.ofNat_toNat, BitVec.setWidth_eq]

/-- Clipping a word that holds an integer clips the integer. -/
theorem clip_ofInt (t : ℤ) (h1 : -2147483648 ≤ t) (h2 : t ≤ 2147483647) :
    ((IntOp.minsi 7#32 (IntOp.maxsi 0#32 (BitVec.ofInt 32 t))).toNat : ℤ) = min 7 (max 0 t) := by
  have ht : (BitVec.ofInt 32 t).toInt = t := by
    rw [BitVec.toInt_ofInt, Int.bmod_def]
    norm_num
    omega
  generalize BitVec.ofInt 32 t = b at ht
  subst ht
  rw [IntOp.minsi, IntOp.maxsi]
  have e7 : (7#32).toInt = 7 := rfl
  have e0 : (0#32).toInt = 0 := rfl
  have ht := b.toInt_eq_toNat_cond
  have hl := b.isLt
  simp only [BitVec.slt, decide_eq_true_eq]
  split_ifs at ht ⊢ <;> simp_all <;> omega

/-- Clipping first and rounding down after gives the level too. -/
theorem floor_clip (x : EReal) :
    Ideal.liftRound Int.floor (min (((7#32).toInt : ℝ) : EReal) (max (((0#32).toInt : ℝ) : EReal)
      (x * Ideal.ofBits .f32 0x40E00000#32))) = ((lev x : ℝ) : EReal) := by
  unfold lev
  generalize x * Ideal.ofBits .f32 0x40E00000#32 = y
  have e7 : (((7#32).toInt : ℝ) : EReal) = ((7 : ℝ) : EReal) := by
    rw [show (7#32).toInt = 7 from rfl]; norm_num
  have e0 : (((0#32).toInt : ℝ) : EReal) = ((0 : ℝ) : EReal) := by
    rw [show (0#32).toInt = 0 from rfl]; norm_num
  rw [e7, e0, Ideal.fptosi]
  have fl7 : ⌊(7 : ℝ)⌋ = 7 := by norm_num
  have cast : ∀ n : ℕ, ((n : ℝ) : EReal) = (((n : ℤ) : ℝ) : EReal) := fun n => by push_cast; rfl
  have hlo : (-(2 ^ (32 - 1) : Nat) : ℤ) = -2147483648 := by norm_num
  have hhi : (((2 ^ (32 - 1) : Nat) : ℤ) - 1) = 2147483647 := by norm_num
  rw [hlo, hhi]
  have vb : Ideal.toIntClamped (-2147483648) 2147483647 ⊥ = -2147483648 := rfl
  have vt : Ideal.toIntClamped (-2147483648) 2147483647 ⊤ = 2147483647 := rfl
  have vr (r : ℝ) : Ideal.toIntClamped (-2147483648) 2147483647 (r : EReal)
      = max (-2147483648) (min 2147483647 (if 0 ≤ r then ⌊r⌋ else ⌈r⌉)) := rfl
  induction y using EReal.rec with
  | bot =>
    rw [vb, cast, clip_ofInt _ (by norm_num) (by norm_num), max_eq_left (bot_le),
      min_eq_right (by exact_mod_cast (by norm_num : (0 : ℝ) ≤ 7)), Ideal.liftRound_coe]
    norm_num
  | top =>
    rw [vt, cast, clip_ofInt _ (by norm_num) (by norm_num), max_eq_right (le_top), min_eq_left (le_top),
      Ideal.liftRound_coe]
    norm_num
  | coe r =>
    rw [vr, cast, clip_ofInt _ (by omega) (by omega), ← EReal.coe_strictMono.monotone.map_max,
      ← EReal.coe_strictMono.monotone.map_min, Ideal.liftRound_coe]
    congr 2
    rcases lt_or_ge r 0 with h | h
    · rw [if_neg (not_le.mpr h), max_eq_left h.le]
      have : ⌈r⌉ ≤ 0 := Int.ceil_le.mpr (by simpa using h.le)
      norm_num
      omega
    · rw [if_pos h, max_eq_right h]
      have hf : 0 ≤ ⌊r⌋ := Int.floor_nonneg.mpr h
      rcases lt_or_ge r 7 with h7 | h7
      · rw [min_eq_right h7.le]
        have : ⌊r⌋ < 7 := Int.floor_lt.mpr (by simpa using h7)
        norm_num
        omega
      · rw [min_eq_left h7, fl7]
        have : 7 ≤ ⌊r⌋ := Int.le_floor.mpr (by simpa using h7)
        norm_num
        omega

end Cert.KernelIdeal.Glcm
-- ==== Proof.Glcm.Lane.lean ====
module

public import proofs.«01_k».proof.Proof.Glcm.Core
public import Idealize.ShloMosaic.Lib.ValueIdx
public import Idealize.ShloMosaic.Lib.IdealHost

/-! The four features of one lane of one channel, read off the generic chunk over the extended reals: where the nine
neighbours hold the levels `u 0, …, u 8`, each feature is a real sum over the twenty pairs. -/

@[expose] public section

noncomputable section

namespace Cert.KernelIdeal.Glcm

open Idealize.ShloMosaic Idealize.ShloMosaic.ValueIdx Idealize.ShloMosaic.Ideal Cert.KernelIdeal.Gen

/-- The smoothing constant as a real. -/
def eps : ℝ := (8796093 : ℝ) * (2 : ℝ) ^ (-43 : ℤ)

/-- The small constant is positive. -/
theorem eps_pos : 0 < eps := by unfold eps; positivity

/-- The word of the small constant. -/
theorem eps_eq : Ideal.ofBits .f32 0x358637BD#32 = ((eps : ℝ) : EReal) := by
  simp [Ideal.ofBits, Ideal.ieee, eps]

/-- The word of the number 8 in the narrow format. -/
theorem ofBits_eight_bf16 : Ideal.ofBits .bf16 0x4100#16 = ((8 : ℝ) : EReal) := by
  simp [Ideal.ofBits, Ideal.ieee]
  norm_num
  rw [← EReal.coe_mul]
  norm_num

/-- The value of the named constant one twentieth. -/
theorem named_inv20 : (Named.named κ "inv20" 0x3D4CCCCD#32 : Ideal .f32) = (((1 / 20 : ℝ)) : EReal) :=
  IdealRules.named_const.ideal_named_scalar _ _ _ _ rfl

variable (u : ℕ → ℕ)

/-- The first and second level of pair `k`. -/
def fst (k : ℕ) : ℕ := u (pa k)
/-- The second level of pair `k`. -/
def snd (k : ℕ) : ℕ := u (pb k)
/-- The difference of the two levels of pair `k`. -/
def dif (k : ℕ) : ℝ := (fst u k : ℝ) - (snd u k : ℝ)
/-- How many pairs have the levels of pair `k`. -/
def mlt (k : ℕ) : ℕ := cnt (fst u) (snd u) (fst u k) (snd u k)
/-- The smoothed probability of the levels of pair `k`. -/
def prb (k : ℕ) : ℝ := (mlt u k : ℝ) * (1 / 20) + eps

/-- One where the pairs `k` and `l` have the same levels. -/
def hit (k l : ℕ) : ℝ := if fst u k = fst u l ∧ snd u k = snd u l then 1 else 0

/-- Two pairs agree whichever is named first. -/
theorem hit_comm (k l : ℕ) : hit u k l = hit u l k := by
  simp only [hit, eq_comm]

/-- The number of pairs in a pair's bin is the number of agreements with it. -/
theorem mlt_eq (k : ℕ) : (mlt u k : ℝ) = ∑ l ∈ Finset.range 20, hit u k l := by
  rw [mlt, cnt, Finset.card_filter]
  push_cast
  refine Finset.sum_congr rfl fun l _ => ?_
  simp only [hit, eq_comm]

/-- The share in a logarithm is positive. -/
theorem prb_pos (k : ℕ) : 0 < prb u k := by
  have := eps_pos
  unfold prb
  positivity

variable {s : Shape} (n : Nat → FVec Ideal s .bf16) (i : s.Idx)

/-- A lane's difference of a pair's levels. -/
theorem difV_at (h : ∀ k, n k i = ((u k : ℝ) : EReal)) (k : ℕ) : difV n k i = ((dif u k : ℝ) : EReal) := by
  rw [difV, subf_apply, h, h, ← EReal.coe_sub]; rfl

/-- A lane's code of a pair's bin. -/
theorem binV_at (h : ∀ k, n k i = ((u k : ℝ) : EReal)) (k : ℕ) :
    binV n k i = (((fst u k : ℝ) * 8 + (snd u k : ℝ) : ℝ) : EReal) := by
  have hb : (broadcast s (Scalar.ofBits .bf16 0x4100#16 : Ideal .bf16) : FVec Ideal s .bf16) i = ((8 : ℝ) : EReal) :=
    ofBits_eight_bf16
  rw [binV, addf_apply, mulf_apply, hb, h, h, ← EReal.coe_mul, ← EReal.coe_add]; rfl

/-- A lane's comparison of two codes is one where the pairs agree, and zero elsewhere. -/
theorem hitV_at (h : ∀ k, n k i = ((u k : ℝ) : EReal)) (hu : ∀ k, u k < 8) (k l : ℕ) :
    hitV n k l i = ((hit u k l : ℝ) : EReal) := by
  have e : hitV n k l i = Scalar.select (Ideal.cmp .oeq (binV n k i) (binV n l i))
      (Ideal.ofBits .bf16 0x3F80#16) (Ideal.ofBits .bf16 0x0000#16) := rfl
  rw [e, binV_at u n i h, binV_at u n i h, ofBits_one_bf16, ofBits_zero_bf16]
  have a1 := hu (pa k); have a2 := hu (pb k); have a3 := hu (pa l); have a4 := hu (pb l)
  have key : ((((fst u k : ℝ) * 8 + (snd u k : ℝ) : ℝ) : EReal) = (((fst u l : ℝ) * 8 + (snd u l : ℝ) : ℝ) : EReal))
      ↔ (fst u k = fst u l ∧ snd u k = snd u l) := by
    rw [EReal.coe_eq_coe_iff]
    unfold fst snd
    constructor
    · intro hh
      have : u (pa k) * 8 + u (pb k) = u (pa l) * 8 + u (pb l) := by exact_mod_cast hh
      omega
    · rintro ⟨h1, h2⟩; rw [h1, h2]
  unfold hit
  by_cases hc : fst u k = fst u l ∧ snd u k = snd u l
  · rw [if_pos hc]; simp [Scalar.select, Ideal.cmp, key.mpr hc]
  · rw [if_neg hc]
    have hd : decide ((((fst u k : ℝ) * 8 + (snd u k : ℝ) : ℝ) : EReal)
        = (((fst u l : ℝ) * 8 + (snd u l : ℝ) : ℝ) : EReal)) = false :=
      decide_eq_false fun hh => hc (key.mp hh)
    simp only [Scalar.select, Ideal.cmp, hd]
    rfl

/-- A lane's agreements of a pair with the first pairs, added up. -/
theorem upV_at (h : ∀ k, n k i = ((u k : ℝ) : EReal)) (hu : ∀ k, u k < 8) (k c : ℕ) :
    ∀ (b : ℕ) (x : FVec Ideal s .bf16) (r : ℝ), x i = (r : EReal) →
      upV n k c b x i = ((r + ∑ j ∈ Finset.range c, hit u k (b + j) : ℝ) : EReal) := by
  induction c with
  | zero => intro b x r hx; simp [upV, hx]
  | succ c ih =>
    intro b x r hx
    rw [upV, ih (b + 1) _ (r + hit u k b) (by rw [addf_apply, hx, hitV_at u n i h hu, ← EReal.coe_add]),
      Finset.sum_range_succ', add_zero, add_assoc, add_comm (hit u k b)]
    simp only [add_assoc, add_comm 1, add_left_comm 1]

/-- A lane's agreements of a pair with the later pairs, added up. -/
theorem dnV_at (h : ∀ k, n k i = ((u k : ℝ) : EReal)) (hu : ∀ k, u k < 8) (k c : ℕ) :
    ∀ (b : ℕ) (x : FVec Ideal s .bf16) (r : ℝ), x i = (r : EReal) →
      dnV n k c b x i = ((r + ∑ j ∈ Finset.range c, hit u k (b + j) : ℝ) : EReal) := by
  induction c with
  | zero => intro b x r hx; simp [dnV, hx]
  | succ c ih =>
    intro b x r hx
    rw [dnV, ih (b + 1) _ (r + hit u k b) (by rw [addf_apply, hx, hitV_at u n i h hu, ← EReal.coe_add, hit_comm]),
      Finset.sum_range_succ', add_zero, add_assoc, add_comm (hit u k b)]
    simp only [add_assoc, add_comm 1, add_left_comm 1]

/-- The multiplicity the kernel counts is the count of the pair's levels. -/
theorem mulV_at (h : ∀ k, n k i = ((u k : ℝ) : EReal)) (hu : ∀ k, u k < 8) (k r : ℕ) (hk : k + r = 19) :
    mulV n k r i = (((mlt u k : ℝ)) : EReal) := by
  have h1 : (broadcast s (Scalar.ofBits .bf16 0x3F80#16 : Ideal .bf16) : FVec Ideal s .bf16) i = ((1 : ℝ) : EReal) :=
    ofBits_one_bf16
  rw [mulV, upV_at u n i h hu k r (k + 1) _ _ (dnV_at u n i h hu k k 0 _ 1 h1), mlt_eq,
    show 20 = k + (r + 1) by omega, Finset.sum_range_add, Finset.sum_range_succ']
  congr 1
  have : hit u k (k + 0) = 1 := by simp [hit]
  rw [this]
  simp only [zero_add, add_assoc, add_comm 1]
  ring

/-- A lane's group of squared differences. -/
theorem conGrp_at (h : ∀ k, n k i = ((u k : ℝ) : EReal)) (g : ℕ) :
    conGrp n g i = ((dif u g ^ 2 + dif u (g+1) ^ 2 + dif u (g+2) ^ 2 + dif u (g+3) ^ 2 + dif u (g+4) ^ 2 : ℝ) : EReal) := by
  simp only [conGrp, addf_apply, mulf_apply, difV_at u n i h, ← EReal.coe_mul, ← EReal.coe_add, pow_two]

/-- The contrast of the lane. -/
theorem conV_at (h : ∀ k, n k i = ((u k : ℝ) : EReal)) :
    conV n i = ((∑ k ∈ Finset.range 20, dif u k ^ 2 : ℝ) : EReal) := by
  simp only [conV, addf_apply, extf_apply, conGrp_at u n i h, ← EReal.coe_add]
  congr 1
  simp only [Finset.sum_range_succ, Finset.sum_range_zero]
  ring

/-- A lane's group of agreements. -/
theorem eneGrp_at (h : ∀ k, n k i = ((u k : ℝ) : EReal)) (hu : ∀ k, u k < 8) (g : ℕ) (hg : g + 3 ≤ 19) :
    eneGrp n g i = (((mlt u g : ℝ) + mlt u (g+1) + mlt u (g+2) + mlt u (g+3) : ℝ) : EReal) := by
  simp only [eneGrp, addf_apply]
  rw [mulV_at u n i h hu g _ (by omega), mulV_at u n i h hu (g+1) _ (by omega), mulV_at u n i h hu (g+2) _ (by omega),
    mulV_at u n i h hu (g+3) _ (by omega)]
  simp only [← EReal.coe_add]

/-- The energy of the lane. -/
theorem eneV_at (h : ∀ k, n k i = ((u k : ℝ) : EReal)) (hu : ∀ k, u k < 8) :
    eneV n i = ((∑ k ∈ Finset.range 20, (mlt u k : ℝ) : ℝ) : EReal) := by
  simp only [eneV, addf_apply, extf_apply]
  rw [eneGrp_at u n i h hu 0 (by omega), eneGrp_at u n i h hu 4 (by omega), eneGrp_at u n i h hu 8 (by omega),
    eneGrp_at u n i h hu 12 (by omega), eneGrp_at u n i h hu 16 (by omega)]
  simp only [← EReal.coe_add]
  congr 1
  simp only [Finset.sum_range_succ, Finset.sum_range_zero]
  ring

/-- A lane's term of the homogeneity. -/
theorem homTerm_at (h : ∀ k, n k i = ((u k : ℝ) : EReal)) (k : ℕ) :
    homTerm n k i = ((1 / (1 + |dif u k|) : ℝ) : EReal) := by
  have e : homTerm n k i = Ideal.div 1 (Ideal.ofBits .f32 0x3F800000#32 + max (difV n k i) (-(difV n k i))) := rfl
  rw [e, difV_at u n i h, ofBits_one_f32, ← EReal.coe_neg, ← EReal.coe_strictMono.monotone.map_max, ← abs,
    show (1 : EReal) = ((1 : ℝ) : EReal) from rfl, ← EReal.coe_add]
  have hp : (0 : ℝ) < 1 + |dif u k| := by positivity
  rw [Ideal.div_coe hp.ne', ← EReal.coe_mul, one_mul]

/-- A lane's first terms of the homogeneity, added up. -/
theorem homUp_at (h : ∀ k, n k i = ((u k : ℝ) : EReal)) (c : ℕ) :
    ∀ (b : ℕ) (x : FVec Ideal s .f32) (r : ℝ), x i = (r : EReal) →
      homUp n c b x i = ((r + ∑ j ∈ Finset.range c, 1 / (1 + |dif u (b + j)|) : ℝ) : EReal) := by
  induction c with
  | zero => intro b x r hx; simp [homUp, hx]
  | succ c ih =>
    intro b x r hx
    rw [homUp, ih (b + 1) _ (r + 1 / (1 + |dif u b|)) (by rw [addf_apply, hx, homTerm_at u n i h, ← EReal.coe_add]),
      Finset.sum_range_succ', add_zero, add_assoc, add_comm (1 / (1 + |dif u b|))]
    simp only [add_assoc, add_comm 1, add_left_comm 1]

/-- The homogeneity of the lane. -/
theorem homV_at (h : ∀ k, n k i = ((u k : ℝ) : EReal)) :
    homV n i = ((∑ k ∈ Finset.range 20, 1 / (1 + |dif u k|) : ℝ) : EReal) := by
  rw [homV, homUp_at u n i h 19 1 _ _ (homTerm_at u n i h 0), Finset.sum_range_succ' _ 19]
  congr 1
  rw [add_comm]
  simp only [add_comm 1]

/-- A lane's factor of the entropy's product. -/
theorem proV_at (h : ∀ k, n k i = ((u k : ℝ) : EReal)) (hu : ∀ k, u k < 8) (k r : ℕ) (hk : k + r = 19) :
    proV n k r i = ((prb u k : ℝ) : EReal) := by
  have h1 : (broadcast s (Named.named κ "inv20" 0x3D4CCCCD#32 : Ideal .f32) : FVec Ideal s .f32) i
      = ((1 / 20 : ℝ) : EReal) := named_inv20
  have h2 : (broadcast s (Scalar.ofBits .f32 0x358637BD#32 : Ideal .f32) : FVec Ideal s .f32) i
      = ((eps : ℝ) : EReal) := eps_eq
  rw [proV, addf_apply, mulf_apply, extf_apply, mulV_at u n i h hu k r hk, h1, h2, ← EReal.coe_mul, ← EReal.coe_add]
  rfl

/-- A lane's first factors of the entropy's product, multiplied. -/
theorem proUp_at (h : ∀ k, n k i = ((u k : ℝ) : EReal)) (hu : ∀ k, u k < 8) (c : ℕ) :
    ∀ (b : ℕ) (x : FVec Ideal s .f32) (r : ℝ), b + c = 20 → x i = (r : EReal) →
      proUp n c b x i = ((r * ∏ j ∈ Finset.range c, prb u (b + j) : ℝ) : EReal) := by
  induction c with
  | zero => intro b x r _ hx; simp [proUp, hx]
  | succ c ih =>
    intro b x r hb hx
    rw [proUp, ih (b + 1) _ (r * prb u b) (by omega)
      (by rw [mulf_apply, hx, proV_at u n i h hu b c (by omega), ← EReal.coe_mul]),
      Finset.prod_range_succ', add_zero, mul_assoc, mul_comm (prb u b)]
    simp only [add_assoc, add_comm 1]

/-- The logarithm the kernel takes of the product is the sum of the logarithms. -/
theorem logV_at (h : ∀ k, n k i = ((u k : ℝ) : EReal)) (hu : ∀ k, u k < 8) :
    logV n i = ((∑ k ∈ Finset.range 20, Real.log (prb u k) : ℝ) : EReal) := by
  have e : logV n i = Ideal.log (proUp n 19 1 (proV n 0 19) i) := rfl
  have hp : (0 : ℝ) < ∏ k ∈ Finset.range 20, prb u k := Finset.prod_pos fun k _ => prb_pos u k
  rw [e, proUp_at u n i h hu 19 1 _ _ (by norm_num) (proV_at u n i h hu 0 19 (by norm_num)),
    ← Real.log_prod (fun k _ => (prb_pos u k).ne')]
  have : prb u 0 * ∏ j ∈ Finset.range 19, prb u (1 + j) = ∏ k ∈ Finset.range 20, prb u k := by
    rw [Finset.prod_range_succ' _ 19, mul_comm]
    simp only [add_comm 1]
  rw [this, Ideal.log_coe, if_neg (not_le.mpr hp)]

end Cert.KernelIdeal.Glcm
-- ==== Proof.Glcm.Fb.lean ====
module

public import proofs.«01_k».proof.Proof.Glcm.Chunk
public import proofs.«01_k».proof.Proof.Glcm.Lane
public import Idealize.ShloMosaic.Lib.Pipeline.ValueKit.Tiles
public import Idealize.ShloMosaic.Lib.ValueLayout

/-! What a chunk of lanes adds to the running totals, at the ideal values. -/

@[expose] public section

noncomputable section

namespace Cert.KernelIdeal.Glcm

open Idealize.ShloMosaic Idealize.ShloMosaic.ValueIdx Idealize.ShloMosaic.Ideal Cert.KernelIdeal.Gen

/-- The four features of one pixel from its nine levels: the contrast, the energy, the logarithms and the homogeneity. -/
def feat (u : ℕ → ℕ) (r : ℕ) : ℝ :=
  match r with
  | 0 => ∑ k ∈ Finset.range 20, dif u k ^ 2
  | 1 => ∑ k ∈ Finset.range 20, (mlt u k : ℝ)
  | 2 => ∑ k ∈ Finset.range 20, Real.log (prb u k)
  | _ => ∑ k ∈ Finset.range 20, 1 / (1 + |dif u k|)

/-- Four rows stacked read, at row `r`, the `r`-th of them. -/
theorem stack_at {α : Type} {a : ℕ} (x : Fin 4 → ((⟨2, ![1, a]⟩ : Shape).Idx → α))
    (h : Shape.Concatenates [⟨2, ![1, a]⟩, ⟨2, ![1, a]⟩, ⟨2, ![1, a]⟩, ⟨2, ![1, a]⟩] (⟨2, ![4, a]⟩ : Shape) 0) (r : Fin 4) (e : Fin a) :
    concatenate (⟨2, ![4, a]⟩ : Shape) 0 [⟨⟨2, ![1, a]⟩, x 0⟩, ⟨⟨2, ![1, a]⟩, x 1⟩, ⟨⟨2, ![1, a]⟩, x 2⟩, ⟨⟨2, ![1, a]⟩, x 3⟩] h (ix2 r e)
      = x r (ix2 0 e) := by
  have P : ∀ k : Fin 4, PieceAt (t := ⟨2, ![4, a]⟩) 0 (ix2 r e) (x r (ix2 0 e)) ⟨2, ![1, a]⟩ (x k) k.val := by
    intro k hk _ i h0 h1
    have hk' : r = k := Fin.ext hk
    rw [hk']
    congr 1
    rw [eq_ix2 i]
    have e0 : i 0 = (0 : Fin 1) := Fin.ext h0
    have e1 : i 1 = e := Fin.ext (h1 1 (fun hh => absurd (congrArg Fin.val hh) Nat.one_ne_zero))
    rw [e0, e1]
    rfl
  exact concatenate_unit_eq (t := ⟨2, ![4, a]⟩) 0
    [⟨⟨2, ![1, a]⟩, x 0⟩, ⟨⟨2, ![1, a]⟩, x 1⟩, ⟨⟨2, ![1, a]⟩, x 2⟩, ⟨⟨2, ![1, a]⟩, x 3⟩] h _ _ rfl ⟨P 0, P 1, P 2, P 3, trivial⟩

/-- A sum over the eight channels of a block, laid out as one row. -/
theorem row_at {a : ℕ} (v : FVec Ideal ⟨2, ![8, a]⟩ .f32) (h : (⟨2, ![8, a]⟩ : Shape).Reduces [0] ⟨1, ![a]⟩)
    (hc : (⟨1, ![a]⟩ : Shape).ShapeCasts ⟨2, ![1, a]⟩) (e : Fin a) :
    shapeCast ⟨2, ![1, a]⟩ (multiReduction .add [0] ⟨1, ![a]⟩ v 0x00000000#32 h (.inl rfl) rfl) hc (ix2 0 e)
      = ∑ c : Fin 8, v (ix2 c e) := by
  refine (shapeCast_a_1a_apply _ hc 0 e).trans ((multiReduction_add_single v _ h (.inl rfl) rfl (ix1 e)).trans ?_)
  refine Finset.sum_congr rfl fun c _ => ?_
  congr 1
  funext d
  match d with
  | ⟨0, _⟩ => rfl
  | ⟨1, _⟩ => rfl

/-- A sum of finite values is the finite sum. -/
theorem coe_sum8 (f : Fin 8 → ℝ) : ∑ c : Fin 8, ((f c : ℝ) : EReal) = ((∑ c : Fin 8, f c : ℝ) : EReal) := by
  simp only [Fin.sum_univ_eight, EReal.coe_add]

variable {a : ℕ} (n : Nat → FVec Ideal ⟨2, ![8, a]⟩ .bf16) (u : Fin 8 → ℕ → ℕ) (e : Fin a)

/-- The four feature maps of a chunk. -/
def featV (r : Fin 4) : FVec Ideal ⟨2, ![8, a]⟩ .f32 :=
  match r with
  | 0 => conV n
  | 1 => eneV n
  | 2 => logV n
  | 3 => homV n

/-- The feature maps of a chunk at channel `c` and lane `e`. -/
theorem featV_at (h : ∀ c k, n k (ix2 c e) = ((u c k : ℝ) : EReal)) (hu : ∀ c k, u c k < 8) (r : Fin 4) (c : Fin 8) :
    featV n r (ix2 c e) = ((feat (u c) r : ℝ) : EReal) := by
  match r with
  | 0 => exact conV_at (u c) n _ (h c)
  | 1 => exact eneV_at (u c) n _ (h c) (hu c)
  | 2 => exact logV_at (u c) n _ (h c) (hu c)
  | 3 => exact homV_at (u c) n _ (h c)

/-- What a chunk adds at row `r` and lane `e`: the features of its eight channels. -/
theorem feat_rows (hr : (⟨2, ![8, a]⟩ : Shape).Reduces [0] ⟨1, ![a]⟩) (hc : (⟨1, ![a]⟩ : Shape).ShapeCasts ⟨2, ![1, a]⟩)
    (hcat : Shape.Concatenates [⟨2, ![1, a]⟩, ⟨2, ![1, a]⟩, ⟨2, ![1, a]⟩, ⟨2, ![1, a]⟩] (⟨2, ![4, a]⟩ : Shape) 0)
    (h : ∀ c k, n k (ix2 c e) = ((u c k : ℝ) : EReal)) (hu : ∀ c k, u c k < 8) (r : Fin 4) :
    concatenate (⟨2, ![4, a]⟩ : Shape) 0
      [⟨⟨2, ![1, a]⟩, shapeCast ⟨2, ![1, a]⟩ (multiReduction .add [0] ⟨1, ![a]⟩ (featV n 0) 0x00000000#32 hr (.inl rfl) rfl) hc⟩,
       ⟨⟨2, ![1, a]⟩, shapeCast ⟨2, ![1, a]⟩ (multiReduction .add [0] ⟨1, ![a]⟩ (featV n 1) 0x00000000#32 hr (.inl rfl) rfl) hc⟩,
       ⟨⟨2, ![1, a]⟩, shapeCast ⟨2, ![1, a]⟩ (multiReduction .add [0] ⟨1, ![a]⟩ (featV n 2) 0x00000000#32 hr (.inl rfl) rfl) hc⟩,
       ⟨⟨2, ![1, a]⟩, shapeCast ⟨2, ![1, a]⟩ (multiReduction .add [0] ⟨1, ![a]⟩ (featV n 3) 0x00000000#32 hr (.inl rfl) rfl) hc⟩] hcat (ix2 r e)
      = ((∑ c : Fin 8, feat (u c) r : ℝ) : EReal) := by
  refine (stack_at (fun q => shapeCast ⟨2, ![1, a]⟩ (multiReduction .add [0] ⟨1, ![a]⟩ (featV n q) 0x00000000#32 hr (.inl rfl) rfl) hc)
    hcat r e).trans ?_
  rw [row_at, ← coe_sum8]
  exact Finset.sum_congr rfl fun c _ => featV_at n u e h hu r c

/-- A chunk of 512 lanes at row `r` and lane `e`: the running total with the features of its eight channels added. -/
theorem chunk512_at (n : Nat → FVec Ideal S8x512 .bf16) (acc : FVec Ideal S4x512 .f32) (u : Fin 8 → ℕ → ℕ) (e : Fin 512)
    (h : ∀ c k, n k (ix2 c e) = ((u c k : ℝ) : EReal)) (hu : ∀ c k, u c k < 8) (r : Fin 4) (A : ℝ)
    (hA : acc (ix2 r e) = (A : EReal)) :
    chunk512 n acc (ix2 r e) = ((A + ∑ c : Fin 8, feat (u c) r : ℝ) : EReal) := by
  rw [chunk512, shapeCast_self, addf_apply, hA, EReal.coe_add]
  exact congrArg _ (feat_rows n u e _ _ _ h hu r)

/-- The last chunk at row `r` and lane `e`. -/
theorem chunk176_at (n : Nat → FVec Ideal S8x176 .bf16) (acc : FVec Ideal S4x176 .f32) (u : Fin 8 → ℕ → ℕ) (e : Fin 176)
    (h : ∀ c k, n k (ix2 c e) = ((u c k : ℝ) : EReal)) (hu : ∀ c k, u c k < 8) (r : Fin 4) (A : ℝ)
    (hA : acc (ix2 r e) = (A : EReal)) :
    chunk176 n acc (ix2 r e) = ((A + ∑ c : Fin 8, feat (u c) r : ℝ) : EReal) := by
  rw [chunk176, shapeCast_self, addf_apply, hA, EReal.coe_add]
  exact congrArg _ (feat_rows n u e _ _ _ h hu r)

end Cert.KernelIdeal.Glcm
-- ==== Proof.Glcm.Block.lean ====
module

public import proofs.«01_k».proof.Proof.Glcm.Fb
public import Idealize.ShloMosaic.Lib.Pipeline.ValueKit.Acc

/-! One block of eight channels: the nine shifted copies of its levels in the kernel's scratch, the loads of them, and
what the seven chunks of lanes leave in the running totals. -/

@[expose] public section

noncomputable section

namespace Cert.KernelIdeal.Glcm

open Idealize.ShloMosaic Idealize.ShloMosaic.ValueIdx Idealize.ShloMosaic.Ideal Cert.KernelIdeal.Gen

/-- The lane offset of neighbour `k` of the 3 × 3 window in rows of 58 lanes. -/
def off : ℕ → ℕ
  | 0 => 0 | 1 => 1 | 2 => 2 | 3 => 58 | 4 => 59 | 5 => 60 | 6 => 116 | 7 => 117 | _ => 118

/-- No offset is above 118. -/
theorem off_le (k : ℕ) : off k ≤ 118 := by
  unfold off
  split <;> omega

/-- A neighbour's slice fits in the block. -/
theorem sl_ok (k : ℕ) : S8x3368.Slices ![0, off k] S8x3248 := by
  refine ⟨rfl, fun a => ?_⟩
  have := off_le k
  match a with
  | ⟨0, _⟩ => exact (by decide : 0 + 8 ≤ 8)
  | ⟨1, _⟩ => show off k + 3248 ≤ 3368; omega

/-- A band of the buffer of copies fits in it. -/
theorem band_ok (k o w : ℕ) (hk : k ≤ 8) (ho : o + w ≤ 3248) :
    ∀ a, (![8 * k, o] : Fin 2 → ℕ) a + (⟨2, ![8, w]⟩ : Shape).size a ≤ S72x3248.size a := by
  intro a
  match a with
  | ⟨0, _⟩ => show 8 * k + 8 ≤ 72; omega
  | ⟨1, _⟩ => show o + w ≤ 3248; omega

/-- Some columns of the totals fit in them. -/
theorem cols_ok (o w : ℕ) (ho : o + w ≤ 3248) :
    ∀ a, (![0, o] : Fin 2 → ℕ) a + (⟨2, ![4, w]⟩ : Shape).size a ≤ S4x3248.size a := by
  intro a
  match a with
  | ⟨0, _⟩ => exact (by decide : 0 + 4 ≤ 4)
  | ⟨1, _⟩ => show o + w ≤ 3248; omega

section Any
variable {F : FTy → Type} [FloatOps F] [Named F]

/-- The `k`-th shifted copy of a block's levels, as the kernel stores it. -/
def nbPiece (q : FVec F S8x3368 .bf16) (k : ℕ) (hk : k ≤ 8) : View.Piece (Elt F) S72x3248 .bf16 :=
  ⟨Rect.unit ![8 * k, 0] S8x3248.size (band_ok k 0 3248 hk (by decide)),
    shapeCast S8x3248 (extractStridedSlice S8x3248 ![0, off k] q (sl_ok k)) shapeCasts_S8x3248_S8x3248⟩

/-- The nine shifted copies stored into the scratch, the last store first. -/
def nbList (q : FVec F S8x3368 .bf16) : List (View.Piece (Elt F) S72x3248 .bf16) :=
  [nbPiece q 8 (by decide), nbPiece q 7 (by decide), nbPiece q 6 (by decide), nbPiece q 5 (by decide), nbPiece q 4 (by decide),
   nbPiece q 3 (by decide), nbPiece q 2 (by decide), nbPiece q 1 (by decide), nbPiece q 0 (by decide)]

/-- A load of neighbour `k` over `w` lanes from lane `o`. -/
def ldw (w : ℕ) (v : View sig .tc .vmem S72x3248 .bf16) (L : List (View.Piece (Elt F) S72x3248 .bf16)) (o : ℕ) (ho : o + w ≤ 3248)
    (k : ℕ) (hk : k ≤ 8) : FVec F ⟨2, ![8, w]⟩ .bf16 :=
  v.readCov L (Rect.unit (s := S72x3248) ![8 * k, o] (⟨2, ![8, w]⟩ : Shape).size (band_ok k o w hk ho)).toLoadRect

/-- The nine neighbours over `w` lanes from lane `o`. -/
def ldn (w : ℕ) (v : View sig .tc .vmem S72x3248 .bf16) (L : List (View.Piece (Elt F) S72x3248 .bf16)) (o : ℕ) (ho : o + w ≤ 3248) :
    Nat → FVec F ⟨2, ![8, w]⟩ .bf16 :=
  nine (ldw w v L o ho 0 (by decide)) (ldw w v L o ho 1 (by decide)) (ldw w v L o ho 2 (by decide)) (ldw w v L o ho 3 (by decide))
    (ldw w v L o ho 4 (by decide)) (ldw w v L o ho 5 (by decide)) (ldw w v L o ho 6 (by decide)) (ldw w v L o ho 7 (by decide))
    (ldw w v L o ho 8 (by decide))

/-- What chunk `j` of 512 lanes stores: the totals `a` it loads with its own features added. -/
def accPiece (v : View sig .tc .vmem S72x3248 .bf16) (q : FVec F S8x3368 .bf16) (j : ℕ) (hj : j < 6) (a : FVec F S4x512 .f32) :
    View.Piece (Elt F) S4x3248 .f32 :=
  ⟨Rect.unit ![0, 512 * j] S4x512.size (cols_ok (512 * j) 512 (by omega)),
    chunk512 (ldn 512 v (nbList q) (512 * j) (by omega)) a⟩

/-- What the last chunk stores. -/
def endPiece (v : View sig .tc .vmem S72x3248 .bf16) (q : FVec F S8x3368 .bf16) (a : FVec F S4x176 .f32) :
    View.Piece (Elt F) S4x3248 .f32 :=
  ⟨Rect.unit ![0, 3072] S4x176.size (cols_ok 3072 176 (by decide)), chunk176 (ldn 176 v (nbList q) 3072 (by decide)) a⟩

end Any

/-- The nine shifted copies at row `8k + c` and lane `p`: the level of channel `c` at lane `off k + p`. -/
theorem nbList_at (q : FVec Ideal S8x3368 .bf16) (k : ℕ) (hk : k ≤ 8) (c : Fin 8) (p : Fin 3248) (hp : off k + p < 3368) (r : Fin 72)
    (hr : r.val = 8 * k + c) :
    View.canon (nbList q) (ix2 r p) = q (ix2 c ⟨off k + p, hp⟩) := by
  have P : ∀ (k' : ℕ) (hk' : k' ≤ 8) (x : S8x3248.Idx), (nbPiece q k' hk').1.emb x = ix2 r p →
      (nbPiece q k' hk').2 x = q (ix2 c ⟨off k + p, hp⟩) := by
    intro k' hk' x hx
    have h0 : 8 * k' + 1 * (x 0).val = r.val := congrArg (fun i : S72x3248.Idx => (i 0).val) hx
    have h1 : 0 + 1 * (x 1).val = p.val := congrArg (fun i : S72x3248.Idx => (i 1).val) hx
    have hx0 : (x 0).val < 8 := (x 0).isLt
    have hc := c.isLt
    have hkk : k' = k := by omega
    subst hkk
    show shapeCast S8x3248 (extractStridedSlice S8x3248 ![0, off k'] q (sl_ok k')) shapeCasts_S8x3248_S8x3248 x = _
    rw [shapeCast_self]
    show q _ = q _
    congr 1
    funext a
    match a with
    | ⟨0, _⟩ => exact Fin.ext (by show 0 + (x 0).val = c.val; omega)
    | ⟨1, _⟩ => exact Fin.ext (by show off k' + (x 1).val = off k' + p.val; omega)
  refine View.canon_eq_of_allAt _ _ _ (View.cover_of_tiled _ (![8, 3248] : Fin 2 → ℕ) rfl _) ?_
  intro pc hpc
  simp only [nbList, List.mem_cons, List.not_mem_nil, or_false] at hpc
  rcases hpc with rfl | rfl | rfl | rfl | rfl | rfl | rfl | rfl | rfl <;> exact P _ _

/-- A load of neighbour `k` at channel `c` and lane `e` of its chunk. -/
theorem ldw_at (w : ℕ) (v : View sig .tc .vmem S72x3248 .bf16) (q : FVec Ideal S8x3368 .bf16) (o : ℕ) (ho : o + w ≤ 3248)
    (k : ℕ) (hk : k ≤ 8) (c : Fin 8) (e : Fin w) (hp : off k + (o + e) < 3368) :
    ldw w v (nbList q) o ho k hk (ix2 c e) = q (ix2 c ⟨off k + (o + e), hp⟩) := by
  rw [ldw, View.readCov_eq_canon']
  have hr : 8 * k + c.val < 72 := by have := c.isLt; omega
  have he : o + e.val < 3248 := by have := e.isLt; omega
  refine (congrArg (View.canon (nbList q)) (?_ : _ = ix2 ⟨8 * k + c.val, hr⟩ ⟨o + e.val, he⟩)).trans
    (nbList_at q k hk c ⟨o + e, he⟩ hp _ rfl)
  funext a
  match a with
  | ⟨0, _⟩ => exact Fin.ext (by show 8 * k + 1 * c.val = 8 * k + c.val; omega)
  | ⟨1, _⟩ => exact Fin.ext (by show o + 1 * e.val = o + e.val; omega)

/-- The level of channel `c` of a block at lane `p` (none beyond the block's lanes). -/
def lv (x : FVec Ideal S8x3368 .f32) (c : Fin 8) (p : ℕ) : ℕ := if h : p < 3368 then lev (x (ix2 c ⟨p, h⟩)) else 0

/-- A level of the block is below eight. -/
theorem lv_lt (x : FVec Ideal S8x3368 .f32) (c : Fin 8) (p : ℕ) : lv x c p < 8 := by
  unfold lv
  split
  · exact lev_lt _
  · decide

/-- The kernel's quantiser. -/
theorem quant_at (x : FVec Ideal S8x3368 .f32) (c : Fin 8) (p : Fin 3368) :
    k0_pay2 (F := Ideal) x (ix2 c p) = ((lv x c p : ℝ) : EReal) := by
  have e : lv x c p = lev (x (ix2 c p)) := by unfold lv; rw [dif_pos p.isLt]
  rw [e, ← floor_clip]
  unfold k0_pay2
  simp only [shapeCast_self]
  rfl

/-- The nine neighbours at channel `c` and lane `e` of a chunk hold the levels. -/
theorem ldn_at (w : ℕ) (v : View sig .tc .vmem S72x3248 .bf16) (x : FVec Ideal S8x3368 .f32) (o : ℕ) (ho : o + w ≤ 3248)
    (c : Fin 8) (e : Fin w) (k : ℕ) :
    ldn (F := Ideal) w v (nbList (k0_pay2 x)) o ho k (ix2 c e) = ((lv x c (off k + (o + e)) : ℝ) : EReal) := by
  have he : o + e.val < 3248 := by have := e.isLt; omega
  have P : ∀ (k' : ℕ) (hk' : k' ≤ 8), ldw (F := Ideal) w v (nbList (k0_pay2 x)) o ho k' hk' (ix2 c e) = ((lv x c (off k' + (o + e)) : ℝ) : EReal) := by
    intro k' hk'
    have hp : off k' + (o + e) < 3368 := by have := off_le k'; omega
    rw [ldw_at w v _ o ho k' hk' c e hp, quant_at]
  match k with
  | 0 => exact P 0 (by decide)
  | 1 => exact P 1 (by decide)
  | 2 => exact P 2 (by decide)
  | 3 => exact P 3 (by decide)
  | 4 => exact P 4 (by decide)
  | 5 => exact P 5 (by decide)
  | 6 => exact P 6 (by decide)
  | 7 => exact P 7 (by decide)
  | _ + 8 => exact P 8 (by decide)

/-- Feature `r` at lane `l`, summed over a block's eight channels. -/
def blk (x : FVec Ideal S8x3368 .f32) (r l : ℕ) : ℝ := ∑ c : Fin 8, feat (fun k => lv x c (off k + l)) r

/-- Chunk `j` where it writes: the total it loaded with the block's features added. -/
theorem accPiece_at (v : View sig .tc .vmem S72x3248 .bf16) (x : FVec Ideal S8x3368 .f32) (j : ℕ) (hj : j < 6) (a : FVec Ideal S4x512 .f32)
    (A : ℕ → ℕ → ℝ) (hA : ∀ (r : Fin 4) (e : Fin 512), a (ix2 r e) = ((A r (512 * j + e) : ℝ) : EReal)) (y : S4x3248.Idx)
    (z : S4x512.Idx) (hz : (accPiece v (k0_pay2 x) j hj a).1.emb z = y) :
    (accPiece v (k0_pay2 x) j hj a).2 z = ((A (y 0) (y 1) + blk x (y 0) (y 1) : ℝ) : EReal) := by
  obtain ⟨r, e, rfl⟩ : ∃ (r : Fin 4) (e : Fin 512), z = ix2 r e := ⟨z 0, z 1, eq_ix2 z⟩
  have h0 : 0 + 1 * r.val = (y 0).val := congrArg (fun i : S4x3248.Idx => (i 0).val) hz
  have h1 : 512 * j + 1 * e.val = (y 1).val := congrArg (fun i : S4x3248.Idx => (i 1).val) hz
  rw [← h0, ← h1, Nat.zero_add, Nat.one_mul, Nat.one_mul]
  exact chunk512_at _ a (fun c k => lv x c (off k + (512 * j + e))) e (fun c k => ldn_at 512 v x _ _ c e k)
    (fun c k => lv_lt _ _ _) r _ (hA r e)

/-- The last chunk where it writes. -/
theorem endPiece_at (v : View sig .tc .vmem S72x3248 .bf16) (x : FVec Ideal S8x3368 .f32) (a : FVec Ideal S4x176 .f32)
    (A : ℕ → ℕ → ℝ) (hA : ∀ (r : Fin 4) (e : Fin 176), a (ix2 r e) = ((A r (3072 + e) : ℝ) : EReal)) (y : S4x3248.Idx)
    (z : S4x176.Idx) (hz : (endPiece v (k0_pay2 x) a).1.emb z = y) :
    (endPiece v (k0_pay2 x) a).2 z = ((A (y 0) (y 1) + blk x (y 0) (y 1) : ℝ) : EReal) := by
  obtain ⟨r, e, rfl⟩ : ∃ (r : Fin 4) (e : Fin 176), z = ix2 r e := ⟨z 0, z 1, eq_ix2 z⟩
  have h0 : 0 + 1 * r.val = (y 0).val := congrArg (fun i : S4x3248.Idx => (i 0).val) hz
  have h1 : 3072 + 1 * e.val = (y 1).val := congrArg (fun i : S4x3248.Idx => (i 1).val) hz
  rw [← h0, ← h1, Nat.zero_add, Nat.one_mul, Nat.one_mul]
  exact chunk176_at _ a (fun c k => lv x c (off k + (3072 + e))) e (fun c k => ldn_at 176 v x _ _ c e k)
    (fun c k => lv_lt _ _ _) r _ (hA r e)

end Cert.KernelIdeal.Glcm
-- ==== Proof.Glcm.CaseC.lean ====
module

public import proofs.«01_k».proof.Proof.Frames.KernelIdealC
public import proofs.«01_k».proof.Proof.Glcm.Conv
public import proofs.«01_k».proof.Proof.Glcm.Block
public import Idealize.ShloMosaic.Lib.Pipeline.ValueKit.Acc

/-! The last grid point: what it stores into the output, as one function of the blocks it loads. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

variable {F : FTy → Type} [FloatOps F] [Named F]

/-- A matrix fits in itself. -/
theorem all_ok (a b : ℕ) : ∀ c, (![0, 0] : Fin 2 → ℕ) c + (⟨2, ![a, b]⟩ : Shape).size c ≤ (⟨2, ![a, b]⟩ : Shape).size c := by
  intro c
  match c with
  | ⟨0, _⟩ => exact (Nat.zero_add _).le
  | ⟨1, _⟩ => exact (Nat.zero_add _).le

/-- Some lanes of a matrix fit in it. -/
theorem lanes_ok (a b o w : ℕ) (h : o + w ≤ b) : ∀ c, (![0, o] : Fin 2 → ℕ) c + (⟨2, ![a, w]⟩ : Shape).size c ≤ (⟨2, ![a, b]⟩ : Shape).size c := by
  intro c
  match c with
  | ⟨0, _⟩ => exact (Nat.zero_add _).le
  | ⟨1, _⟩ => exact h

/-- A band of rows of a matrix fits in it. -/
theorem rows_ok (a b o w : ℕ) (h : o + w ≤ a) : ∀ c, (![o, 0] : Fin 2 → ℕ) c + (⟨2, ![w, b]⟩ : Shape).size c ≤ (⟨2, ![a, b]⟩ : Shape).size c := by
  intro c
  match c with
  | ⟨0, _⟩ => exact h
  | ⟨1, _⟩ => exact (Nat.zero_add _).le

/-- The whole of a window, as the kernel loads it. -/
def rdW {a b : ℕ} (m : Memref sig .tc .vmem ⟨2, ![a, b]⟩ .f32) (h : m.IsWhole) (x : Vec F ⟨2, ![a, b]⟩ .f32) : FVec F ⟨2, ![a, b]⟩ .f32 :=
  View.readAt (Elt F) m.view (Rect.unit (s := ⟨2, ![a, b]⟩) ![0, 0] (⟨2, ![a, b]⟩ : Shape).size (all_ok a b)).toLoadRect (h.unread x)

/-- The lanes of the image that line up with the output's. -/
def rdX (m : Memref sig .tc .vmem S96x3368 .f32) (h : m.IsWhole) (x : Vec F S96x3368 .f32) : FVec F S96x3248 .f32 :=
  View.readAt (Elt F) m.view (Rect.unit (s := S96x3368) ![0, 59] S96x3248.size (lanes_ok 96 3368 59 3248 (by decide))).toLoadRect (h.unread x)

/-- The stores into the padded scratch: zeros over all of it, then the narrow channels. -/
def padList (m1 : FVec F S24x3248 .f32) : List (View.Piece (Elt F) S24x3366 .f32) :=
  [⟨Rect.unit (s := S24x3366) ![0, 59] S24x3248.size (lanes_ok 24 3366 59 3248 (by decide)), k0_pay3270 m1⟩,
   ⟨Rect.unit (s := S24x3366) ![0, 0] S24x3366.size (all_ok 24 3366), k0_pay3269 k0_pay3268⟩]

/-- The padded scratch read from lane `o` on. -/
def padRd (v : View sig .tc .vmem S24x3366 .f32) (m1 : FVec F S24x3248 .f32) (o : ℕ) (ho : o + 3248 ≤ 3366) : FVec F S24x3248 .f32 :=
  v.readCov (padList m1) (Rect.unit (s := S24x3366) ![0, o] S24x3248.size (lanes_ok 24 3366 o 3248 ho)).toLoadRect

/-- The copy for neighbour `k`. -/
def colPiece (v : View sig .tc .vmem S24x3366 .f32) (m1 : FVec F S24x3248 .f32) (k : ℕ) (hk : k < 9) : View.Piece (Elt F) S216x3248 .f32 :=
  ⟨Rect.unit (s := S216x3248) ![24 * k, 0] S24x3248.size (rows_ok 216 3248 (24 * k) 24 (by omega)),
    shapeCast S24x3248 (padRd v m1 (off k) (by have := off_le k; omega)) shapeCasts_S24x3248_S24x3248⟩

/-- The nine copies, the last first. -/
def colList (v : View sig .tc .vmem S24x3366 .f32) (m1 : FVec F S24x3248 .f32) : List (View.Piece (Elt F) S216x3248 .f32) :=
  [colPiece v m1 8 (by decide), colPiece v m1 7 (by decide), colPiece v m1 6 (by decide), colPiece v m1 5 (by decide),
   colPiece v m1 4 (by decide), colPiece v m1 3 (by decide), colPiece v m1 2 (by decide), colPiece v m1 1 (by decide), colPiece v m1 0 (by decide)]

/-- The nine copies, loaded as one matrix. -/
def colRd (v' : View sig .tc .vmem S216x3248 .f32) (v : View sig .tc .vmem S24x3366 .f32) (m1 : FVec F S24x3248 .f32) : FVec F S216x3248 .f32 :=
  v'.readCov (colList v m1) (Rect.unit (s := S216x3248) ![0, 0] S216x3248.size (all_ok 216 3248)).toLoadRect

/-- What the last point stores, from what it loads. -/
def outV (v' : View sig .tc .vmem S216x3248 .f32) (v : View sig .tc .vmem S24x3366 .f32) (x : FVec F S96x3248 .f32) (f : FVec F S4x3248 .f32)
    (w1 : FVec F S48x96 .f32) (t1 : FVec F S48x4 .f32) (g1 b1 : FVec F S48x1 .f32) (w2 : FVec F S48x96 .f32) (t2 : FVec F S48x4 .f32)
    (g2 b2 : FVec F S48x1 .f32) (wm : FVec F S24x48 .f32) (gm bm : FVec F S24x1 .f32) (wn : FVec F S48x216 .f32) (gn bn : FVec F S48x1 .f32)
    (wa wb : FVec F S96x48 .f32) (g3 b3 : FVec F S96x1 .f32) : FVec F S96x3248 .f32 :=
  k0_pay1 (k0_pay3281 (k0_pay3264 x) (k0_pay3265 f) (k0_pay3280 (k0_pay3266 x f w1 t1 g1 b1)
    (colRd v' v (k0_pay3267 (k0_pay3266 x f w1 t1 g1 b1) wm gm bm)) wn gn bn) w2 t2 g2 b2 wa wb g3) b3

set_option maxRecDepth 16384 in
/-- The one piece the last point stores into the output. -/
theorem pieces_C (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : ¬cond0_0 i) (hc2 : cond0_2 i)
       (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32)
    : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc2 x0 x1 x2 x3 x4 x5 x6 x7 x8 x9 x10 x11 x12 x13 x14 x15 x16 x17 x18 x19 xs1).1 =
      [⟨Rect.unit (s := S96x3248) ![0, 0] S96x3248.size (all_ok 96 3248),
        outV arg25.view arg24.view (rdX arg2 harg2 x1) (rdW arg23 harg23 xs1) (rdW arg3 harg3 x2) (rdW arg4 harg4 x3) (rdW arg5 harg5 x4) (rdW arg6 harg6 x5) (rdW arg7 harg7 x6) (rdW arg8 harg8 x7) (rdW arg9 harg9 x8) (rdW arg10 harg10 x9) (rdW arg11 harg11 x10) (rdW arg12 harg12 x11) (rdW arg13 harg13 x12) (rdW arg14 harg14 x13) (rdW arg15 harg15 x14) (rdW arg16 harg16 x15) (rdW arg17 harg17 x16) (rdW arg18 harg18 x17) (rdW arg19 harg19 x18) (rdW arg20 harg20 x19)⟩] := by
  sl_kernel_rfl

end Cert.KernelIdeal.Glcm
-- ==== Proof.Glcm.Case.lean ====
module

public import proofs.«01_k».proof.Proof.Gen.KernelIdeal.Frame.RunB
public import proofs.«01_k».proof.Proof.Glcm.Block

/-! The running totals after a point, in the two cases that compute features. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen

variable {F : FTy → Type} [FloatOps F] [Named F]

/-- The whole block of a window, as the kernel loads it. -/
def rd0 (m : Memref sig .tc .vmem S8x3368 .f32) (h : m.IsWhole) (x : Vec F S8x3368 .f32) : FVec F S8x3368 .f32 :=
  View.readAt (Elt F) m.view (Rect.unit ![0, 0] S8x3368.size inb_S8x3368_S8x3368_0_0).toLoadRect (h.unread x)

/-- The columns of the running totals that a chunk loads. -/
def rd1 (m : Memref sig .tc .vmem S4x3248 .f32) (h : m.IsWhole) (x : Vec F S4x3248 .f32) (o w : ℕ) (ho : o + w ≤ 3248) : FVec F ⟨2, ![4, w]⟩ .f32 :=
  View.readAt (Elt F) m.view (Rect.unit (s := S4x3248) ![0, o] (⟨2, ![4, w]⟩ : Shape).size (cols_ok o w ho)).toLoadRect (h.unread x)

set_option maxRecDepth 16384 in
/-- Where earlier totals are carried in, the pieces stored into them. -/
theorem pieces_B (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : ¬cond0_1 i) (hc2 : ¬cond0_2 i)
       (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32) (xs1 : Vec F S4x3248 .f32)
    : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19 xs1).2.1 =
      [endPiece arg22.view (k0_pay2 (rd0 arg1 harg1 x0)) (rd1 arg23 harg23 xs1 3072 176 (by decide)),
       accPiece arg22.view (k0_pay2 (rd0 arg1 harg1 x0)) 5 (by decide) (rd1 arg23 harg23 xs1 2560 512 (by decide)),
       accPiece arg22.view (k0_pay2 (rd0 arg1 harg1 x0)) 4 (by decide) (rd1 arg23 harg23 xs1 2048 512 (by decide)),
       accPiece arg22.view (k0_pay2 (rd0 arg1 harg1 x0)) 3 (by decide) (rd1 arg23 harg23 xs1 1536 512 (by decide)),
       accPiece arg22.view (k0_pay2 (rd0 arg1 harg1 x0)) 2 (by decide) (rd1 arg23 harg23 xs1 1024 512 (by decide)),
       accPiece arg22.view (k0_pay2 (rd0 arg1 harg1 x0)) 1 (by decide) (rd1 arg23 harg23 xs1 512 512 (by decide)),
       accPiece arg22.view (k0_pay2 (rd0 arg1 harg1 x0)) 0 (by decide) (rd1 arg23 harg23 xs1 0 512 (by decide))] := by
  sl_kernel_rfl

/-- The first point clears the totals before its chunks. -/
def zeroPiece : View.Piece (Elt F) S4x3248 .f32 := ⟨Rect.unit ![0, 0] S4x3248.size inb_S4x3248_S4x3248_0_0, k0_pay13⟩

/-- A chunk's load of totals that this point has already stored into. -/
def rdA (w : ℕ) (v : View sig .tc .vmem S4x3248 .f32) (L : List (View.Piece (Elt F) S4x3248 .f32)) (o : ℕ) (ho : o + w ≤ 3248) :
    FVec F ⟨2, ![4, w]⟩ .f32 :=
  v.readCov L (Rect.unit (s := S4x3248) ![0, o] (⟨2, ![4, w]⟩ : Shape).size (cols_ok o w ho)).toLoadRect

/-- The pieces stored at the first point by its first `j` chunks, the last first. -/
def listA (v : View sig .tc .vmem S72x3248 .bf16) (v' : View sig .tc .vmem S4x3248 .f32) (q : FVec F S8x3368 .bf16) :
    (j : ℕ) → j ≤ 6 → List (View.Piece (Elt F) S4x3248 .f32)
  | 0, _ => [zeroPiece]
  | j + 1, h => accPiece v q j h (rdA 512 v' (listA v v' q j (by omega)) (512 * j) (by omega)) :: listA v v' q j (by omega)

set_option maxRecDepth 16384 in
/-- Where the totals are cleared first, the pieces stored into them. -/
theorem pieces_A (c : Dev nD) (i : grid0.Coords) (arg1 : Memref sig .tc .vmem S8x3368 .f32) (harg1 : arg1.IsWhole) (arg2 : Memref sig .tc .vmem S96x3368 .f32) (harg2 : arg2.IsWhole) (arg3 : Memref sig .tc .vmem S48x96 .f32) (harg3 : arg3.IsWhole) (arg4 : Memref sig .tc .vmem S48x4 .f32) (harg4 : arg4.IsWhole) (arg5 : Memref sig .tc .vmem S48x1 .f32) (harg5 : arg5.IsWhole) (arg6 : Memref sig .tc .vmem S48x1 .f32) (harg6 : arg6.IsWhole) (arg7 : Memref sig .tc .vmem S48x96 .f32) (harg7 : arg7.IsWhole) (arg8 : Memref sig .tc .vmem S48x4 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S24x48 .f32) (harg11 : arg11.IsWhole) (arg12 : Memref sig .tc .vmem S24x1 .f32) (harg12 : arg12.IsWhole) (arg13 : Memref sig .tc .vmem S24x1 .f32) (harg13 : arg13.IsWhole) (arg14 : Memref sig .tc .vmem S48x216 .f32) (harg14 : arg14.IsWhole) (arg15 : Memref sig .tc .vmem S48x1 .f32) (harg15 : arg15.IsWhole) (arg16 : Memref sig .tc .vmem S48x1 .f32) (harg16 : arg16.IsWhole) (arg17 : Memref sig .tc .vmem S96x48 .f32) (harg17 : arg17.IsWhole) (arg18 : Memref sig .tc .vmem S96x48 .f32) (harg18 : arg18.IsWhole) (arg19 : Memref sig .tc .vmem S96x1 .f32) (harg19 : arg19.IsWhole) (arg20 : Memref sig .tc .vmem S96x1 .f32) (harg20 : arg20.IsWhole) (arg21 : Memref sig .tc .vmem S96x3248 .f32) (harg21 : arg21.IsWhole) (arg22 : Memref sig .tc .vmem S72x3248 .bf16) (harg22 : arg22.IsWhole) (arg23 : Memref sig .tc .vmem S4x3248 .f32) (harg23 : arg23.IsWhole) (arg24 : Memref sig .tc .vmem S24x3366 .f32) (harg24 : arg24.IsWhole) (arg25 : Memref sig .tc .vmem S216x3248 .f32) (harg25 : arg25.IsWhole) (hc0 : cond0_0 i) (hc1 : cond0_1 i) (hc2 : ¬cond0_2 i)
       (x0 : Vec F S8x3368 .f32) (x1 : Vec F S96x3368 .f32) (x2 : Vec F S48x96 .f32) (x3 : Vec F S48x4 .f32) (x4 : Vec F S48x1 .f32) (x5 : Vec F S48x1 .f32) (x6 : Vec F S48x96 .f32) (x7 : Vec F S48x4 .f32) (x8 : Vec F S48x1 .f32) (x9 : Vec F S48x1 .f32) (x10 : Vec F S24x48 .f32) (x11 : Vec F S24x1 .f32) (x12 : Vec F S24x1 .f32) (x13 : Vec F S48x216 .f32) (x14 : Vec F S48x1 .f32) (x15 : Vec F S48x1 .f32) (x16 : Vec F S96x48 .f32) (x17 : Vec F S96x48 .f32) (x18 : Vec F S96x1 .f32) (x19 : Vec F S96x1 .f32)
    : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 hc2 x0 x1 x2 x3 x4 x5 x6 x7 x8 x9 x10 x11 x12 x13 x14 x15 x16 x17 x18 x19).2.1 =
      endPiece arg22.view (k0_pay2 (rd0 arg1 harg1 x0)) (rdA 176 arg23.view (listA arg22.view arg23.view (k0_pay2 (rd0 arg1 harg1 x0)) 6 le_rfl) 3072 (by decide))
        :: listA arg22.view arg23.view (k0_pay2 (rd0 arg1 harg1 x0)) 6 le_rfl := by
  sl_kernel_rfl

/-- A load of the whole block reads it. -/
theorem rd0_eq (m : Memref sig .tc .vmem S8x3368 .f32) (h : m.IsWhole) (x : Vec F S8x3368 .f32) : rd0 m h x = x := by
  rw [rd0]
  refine (View.readAt_eq_ld _ _ _).trans ?_
  rw [h.read_unread]
  exact View.ld_unit_zero (S := S8x3368) (funext fun a => by fin_cases a <;> rfl) _ x

/-- A load of some columns reads them. -/
theorem rd1_at (m : Memref sig .tc .vmem S4x3248 .f32) (h : m.IsWhole) (x : Vec F S4x3248 .f32) (o w : ℕ) (ho : o + w ≤ 3248)
    (r : Fin 4) (e : Fin w) (he : o + e.val < 3248) : rd1 m h x o w ho (ix2 r e) = x (ix2 r ⟨o + e, he⟩) := by
  rw [rd1]
  refine (congrFun (View.readAt_eq_ld _ _ _) _).trans ?_
  rw [h.read_unread]
  refine congrArg x (funext fun a => ?_)
  match a with
  | ⟨0, _⟩ => exact Fin.ext (by show 0 + 1 * r.val = r.val; omega)
  | ⟨1, _⟩ => exact Fin.ext (by show o + 1 * e.val = o + e.val; omega)

/-- The cells of a window of whole columns. -/
theorem col_mem (o w : ℕ) (sz : Fin 2 → ℕ) (h0 : sz 0 = 4) (h1 : sz 1 = w) (h : ∀ a, (![0, o] : Fin 2 → ℕ) a + sz a ≤ S4x3248.size a)
    (y : S4x3248.Idx) : y ∈ (Rect.unit (s := S4x3248) ![0, o] sz h).set ↔ o ≤ (y 1).val ∧ (y 1).val < o + w := by
  subst h1
  rw [Rect.mem_set_unit]
  constructor
  · intro hh
    exact hh 1
  · intro hh a
    match a with
    | ⟨0, _⟩ => exact ⟨Nat.zero_le _, by have h2 : (y 0).val < 4 := (y 0).isLt; show (y 0).val < 0 + sz 0; omega⟩
    | ⟨1, _⟩ => exact hh

/-- A point that adds to carried totals leaves them with its block's features added. -/
theorem listB_at (v : View sig .tc .vmem S72x3248 .bf16) (x : FVec Ideal S8x3368 .f32) (m : Memref sig .tc .vmem S4x3248 .f32)
    (h : m.IsWhole) (xs : Vec Ideal S4x3248 .f32) (A : ℕ → ℕ → ℝ) (hA : ∀ y : S4x3248.Idx, xs y = ((A (y 0) (y 1) : ℝ) : EReal))
    (y : S4x3248.Idx) :
    View.canon [endPiece v (k0_pay2 x) (rd1 m h xs 3072 176 (by decide)), accPiece v (k0_pay2 x) 5 (by decide) (rd1 m h xs 2560 512 (by decide)),
       accPiece v (k0_pay2 x) 4 (by decide) (rd1 m h xs 2048 512 (by decide)), accPiece v (k0_pay2 x) 3 (by decide) (rd1 m h xs 1536 512 (by decide)),
       accPiece v (k0_pay2 x) 2 (by decide) (rd1 m h xs 1024 512 (by decide)), accPiece v (k0_pay2 x) 1 (by decide) (rd1 m h xs 512 512 (by decide)),
       accPiece v (k0_pay2 x) 0 (by decide) (rd1 m h xs 0 512 (by decide))] y = ((A (y 0) (y 1) + blk x (y 0) (y 1) : ℝ) : EReal) := by
  have L : ∀ (o w : ℕ) (ho : o + w ≤ 3248) (r : Fin 4) (e : Fin w), rd1 m h xs o w ho (ix2 r e) = ((A r (o + e) : ℝ) : EReal) := by
    intro o w ho r e
    rw [rd1_at m h xs o w ho r e (by have := e.isLt; omega), hA]
  have P : ∀ (j : ℕ) (hj : j < 6) (a : FVec Ideal S4x512 .f32), a = rd1 m h xs (512 * j) 512 (by omega) →
      ∀ z : S4x512.Idx, (accPiece v (k0_pay2 x) j hj a).1.emb z = y →
        (accPiece v (k0_pay2 x) j hj a).2 z = ((A (y 0) (y 1) + blk x (y 0) (y 1) : ℝ) : EReal) := by
    intro j hj a ha z hz
    exact accPiece_at v x j hj a A (fun r e => by rw [ha, L]) y z hz
  refine View.canon_eq_of_allAt _ _ _ (View.cover_of_tiledBy _ ![4, 16] (by sl_kernel_rfl) y) ?_
  intro pc hpc
  simp only [List.mem_cons, List.not_mem_nil, or_false] at hpc
  rcases hpc with rfl | rfl | rfl | rfl | rfl | rfl | rfl
  · exact fun z hz => endPiece_at v x _ A (L 3072 176 _) y z hz
  · exact P 5 _ _ rfl
  · exact P 4 _ _ rfl
  · exact P 3 _ _ rfl
  · exact P 2 _ _ rfl
  · exact P 1 _ _ rfl
  · exact P 0 _ _ rfl

/-- At the first point, the columns not yet stored into hold zero. -/
theorem listA_zero (v : View sig .tc .vmem S72x3248 .bf16) (v' : View sig .tc .vmem S4x3248 .f32) (q : FVec Ideal S8x3368 .bf16) :
    ∀ (j : ℕ) (hj : j ≤ 6) (y : S4x3248.Idx), 512 * j ≤ (y 1).val → View.canon (listA v v' q j hj) y = ((0 : ℝ) : EReal) := by
  have Z : ∀ (y : S4x3248.Idx) (z : S4x3248.Idx), (zeroPiece (F := Ideal)).1.emb z = y → (zeroPiece (F := Ideal)).2 z = ((0 : ℝ) : EReal) := by
    intro y z _
    show k0_pay13 (F := Ideal) z = _
    unfold k0_pay13
    simp only [shapeCast_self]
    exact ofBits_zero_f32
  intro j
  induction j with
  | zero =>
    intro hj y _
    refine View.canon_eq_of_allAt _ _ _ (View.cover_of_tiledBy _ ![4, 16] (by sl_kernel_rfl) y) ?_
    intro pc hpc
    simp only [listA, List.mem_cons, List.not_mem_nil, or_false] at hpc
    subst hpc
    exact Z y
  | succ j ih =>
    intro hj y hy
    rw [listA, View.canon_cons_of_not_mem, ih (by omega) y (by omega)]
    intro hm
    have := ((col_mem (512 * j) 512 S4x512.size rfl rfl (cols_ok (512 * j) 512 (by omega)) y).mp hm).2
    omega

/-- A cell the newest piece covers holds that piece's value. -/
theorem canon_hit {Val : EltTy → Type} [∀ e, Nonempty (Val e)] {s : Shape} {e : EltTy} (p : View.Piece Val s e) (L : List (View.Piece Val s e))
    {y : s.Idx} (hm : y ∈ p.1.set) (c : Val e) (h : ∀ z, p.1.emb z = y → p.2 z = c) : View.canon (p :: L) y = c := by
  obtain ⟨z, hz⟩ := LoadRect.exists_idx_of_mem _ hm
  have := View.canon_cons_emb p.1 p.2 L z
  rw [← h z hz, ← this]
  exact congrArg _ hz.symm

/-- The first point leaves its own block's features. -/
theorem listA_at (v : View sig .tc .vmem S72x3248 .bf16) (v' : View sig .tc .vmem S4x3248 .f32) (x : FVec Ideal S8x3368 .f32) (y : S4x3248.Idx) :
    View.canon (Val := Elt Ideal) (endPiece v (k0_pay2 x) (rdA (F := Ideal) 176 v' (listA v v' (k0_pay2 x) 6 le_rfl) 3072 (by decide)) :: listA v v' (k0_pay2 x) 6 le_rfl) y
      = ((0 + blk x (y 0) (y 1) : ℝ) : EReal) := by
  have L : ∀ (w j : ℕ) (hj : j ≤ 6) (ho : 512 * j + w ≤ 3248) (r : Fin 4) (e : Fin w),
      rdA (F := Ideal) w v' (listA v v' (k0_pay2 x) j hj) (512 * j) ho (ix2 r e) = ((0 : ℝ) : EReal) := by
    intro w j hj ho r e
    rw [rdA, View.readCov_eq_canon']
    refine listA_zero v v' _ j hj _ ?_
    show 512 * j ≤ 512 * j + 1 * e.val
    omega
  have C : ∀ (j : ℕ) (hj : j ≤ 6) (y : S4x3248.Idx), (y 1).val < 512 * j →
      @Eq EReal (View.canon (Val := Elt Ideal) (listA v v' (k0_pay2 x) j hj) y) ((0 + blk x (y 0) (y 1) : ℝ) : EReal) := by
    intro j
    induction j with
    | zero => intro _ y hy; omega
    | succ j ih =>
      intro hj y hy
      rw [listA]
      by_cases hm : y ∈ (accPiece v (k0_pay2 x) j hj (rdA (F := Ideal) 512 v' (listA v v' (k0_pay2 x) j (by omega)) (512 * j) (by omega))).1.set
      · exact canon_hit _ _ hm _ fun z hz => accPiece_at v x j hj _ (fun _ _ => 0) (fun r e => L 512 j _ _ r e) y z hz
      · rw [View.canon_cons_of_not_mem _ _ hm]
        refine ih (by omega) y ?_
        by_contra hc
        exact hm ((col_mem (512 * j) 512 S4x512.size rfl rfl (cols_ok (512 * j) 512 (by omega)) y).mpr ⟨by omega, by omega⟩)
  by_cases hy : (y 1).val < 3072
  · rw [View.canon_cons_of_not_mem]
    · exact C 6 le_rfl y hy
    · intro hm
      have := ((col_mem 3072 176 S4x176.size rfl rfl (cols_ok 3072 176 (by decide)) y).mp hm).1
      omega
  · have hm : y ∈ (endPiece v (k0_pay2 x) (rdA (F := Ideal) 176 v' (listA v v' (k0_pay2 x) 6 le_rfl) 3072 (by decide))).1.set := by
      have h2 : (y 1).val < 3248 := (y 1).isLt
      exact (col_mem 3072 176 S4x176.size rfl rfl (cols_ok 3072 176 (by decide)) y).mpr ⟨by omega, by omega⟩
    exact canon_hit _ _ hm _ fun z hz => endPiece_at v x _ (fun _ _ => 0) (fun r e => L 176 6 _ _ r e) y z hz

end Cert.KernelIdeal.Glcm
-- ==== Proof.Glcm.ConvAt.lean ====
module

public import proofs.«01_k».proof.Proof.Glcm.CaseC
public import proofs.«01_k».proof.Proof.Glcm.Case

/-! What the last point stores, at a lane that is a pixel: the network of `Net` there. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

/-- A load of a whole window reads it. -/
theorem rdW_eq {a b : ℕ} (m : Memref sig .tc .vmem ⟨2, ![a, b]⟩ .f32) (h : m.IsWhole) (x : Vec Ideal ⟨2, ![a, b]⟩ .f32) : rdW m h x = x := by
  rw [rdW]
  refine (View.readAt_eq_ld _ _ _).trans ?_
  rw [h.read_unread]
  exact View.ld_unit_zero (S := ⟨2, ![a, b]⟩) (funext fun a => by fin_cases a <;> rfl) _ x

/-- A load of the image's lanes reads them. -/
theorem rdX_at (m : Memref sig .tc .vmem S96x3368 .f32) (h : m.IsWhole) (x : Vec Ideal S96x3368 .f32) (c : Fin 96) (p : Fin 3248) :
    rdX m h x (ix2 c p) = x (ix2 c ⟨59 + p, by omega⟩) := by
  rw [rdX]
  refine (congrFun (View.readAt_eq_ld _ _ _) _).trans ?_
  rw [h.read_unread]
  refine congrArg x (funext fun a => ?_)
  match a with
  | ⟨0, _⟩ => exact Fin.ext (by show 0 + 1 * c.val = c.val; omega)
  | ⟨1, _⟩ => exact Fin.ext (by show 59 + 1 * p.val = 59 + p.val; omega)

/-- The padded scratch at channel `i` and lane `q`: the narrow channels from lane 59 on, zero around them. -/
def padv (m1 : FVec Ideal S24x3248 .f32) (i : Fin 24) (q : ℕ) : EReal :=
  if h : 59 ≤ q ∧ q < 3307 then m1 (ix2 i ⟨q - 59, by omega⟩) else 0

/-- Row `j` and lane `p` of the nine copies: channel `j % 24` seen from neighbour `j / 24`. -/
def colv (m1 : FVec Ideal S24x3248 .f32) (j p : ℕ) : EReal := padv m1 ⟨j % 24, Nat.mod_lt _ (by decide)⟩ (off (j / 24) + p)

/-- The cells of a run of lanes of a matrix: those whose lane lies in the run. -/
theorem lane_mem (a b o w : ℕ) (h : o + w ≤ b) (y : (⟨2, ![a, b]⟩ : Shape).Idx) :
    y ∈ (Rect.unit (s := ⟨2, ![a, b]⟩) ![0, o] (⟨2, ![a, w]⟩ : Shape).size (lanes_ok a b o w h)).set ↔ o ≤ (y 1).val ∧ (y 1).val < o + w := by
  rw [Rect.mem_set_unit (s := ⟨2, ![a, b]⟩) (inb := lanes_ok a b o w h)]
  constructor
  · intro e
    exact e 1
  · intro e c
    match c with
    | ⟨0, _⟩ => exact ⟨Nat.zero_le _, by have : (y 0).val < a := (y 0).isLt; show (y 0).val < 0 + a; omega⟩
    | ⟨1, _⟩ => exact e

/-- The padded scratch's piece of narrow channels, at an index of the scratch. -/
theorem padBig_at (m1 : FVec Ideal S24x3248 .f32) (y : S24x3366.Idx) (z : S24x3248.Idx)
    (e0 : 0 + 1 * (z 0).val = (y 0).val) (e1 : 59 + 1 * (z 1).val = (y 1).val) : k0_pay3270 m1 z = padv m1 (y 0) (y 1).val := by
  have hz : (z 1).val < 3248 := (z 1).isLt
  refine Eq.trans ?_ (dif_pos (⟨by omega, by omega⟩ : 59 ≤ (y 1).val ∧ (y 1).val < 3307)).symm
  rw [k0_pay3270, shapeCast_self]
  refine congrArg m1 (funext fun a => ?_)
  match a with
  | ⟨0, _⟩ => exact Fin.ext (by show (z 0).val = (y 0).val; omega)
  | ⟨1, _⟩ => exact Fin.ext (by show (z 1).val = (y 1).val - 59; omega)

/-- The store of the narrow channels. -/
def padBig (m1 : FVec Ideal S24x3248 .f32) : View.Piece (Elt Ideal) S24x3366 .f32 :=
  ⟨Rect.unit (s := S24x3366) ![0, 59] S24x3248.size (lanes_ok 24 3366 59 3248 (by decide)), k0_pay3270 m1⟩

/-- The store of zeros. -/
def padZero : View.Piece (Elt Ideal) S24x3366 .f32 :=
  ⟨Rect.unit (s := S24x3366) ![0, 0] S24x3366.size (all_ok 24 3366), k0_pay3269 (F := Ideal) k0_pay3268⟩

/-- Every cell of the store of zeros is zero. -/
theorem padZero_at (z : padZero.1.shape.Idx) : padZero.2 z = (0 : EReal) := by
  show k0_pay3269 (k0_pay3268 (F := Ideal)) z = _
  rw [k0_pay3269, shapeCast_self]
  exact ofBits_zero_f32

/-- What the padded scratch holds. -/
theorem padList_at (m1 : FVec Ideal S24x3248 .f32) (y : S24x3366.Idx) :
    View.canon (Val := Elt Ideal) (padList m1) y = padv m1 (y 0) (y 1).val := by
  have hy1 : (y 1).val < 3366 := (y 1).isLt
  show View.canon (Val := Elt Ideal) [padBig m1, padZero] y = _
  by_cases h : 59 ≤ (y 1).val ∧ (y 1).val < 3307
  · have hm : y ∈ (padBig m1).1.set := (lane_mem 24 3366 59 3248 (by decide) y).mpr ⟨h.1, by omega⟩
    exact canon_hit _ _ hm _ fun z hz => padBig_at m1 y z (congrArg (fun i : S24x3366.Idx => (i 0).val) hz) (congrArg (fun i : S24x3366.Idx => (i 1).val) hz)
  · have hm : y ∉ (padBig m1).1.set := fun hm => by
      have e := (lane_mem 24 3366 59 3248 (by decide) y).mp hm
      exact h ⟨e.1, by omega⟩
    refine (View.canon_cons_of_not_mem (Val := Elt Ideal) _ _ hm).trans (Eq.trans ?_ (dif_neg h).symm)
    have hm' : y ∈ padZero.1.set := (lane_mem 24 3366 0 3366 (by decide) y).mpr ⟨Nat.zero_le _, by omega⟩
    exact canon_hit _ _ hm' _ fun z _ => padZero_at z

/-- A load of the padded scratch. -/
theorem padRd_at (v : View sig .tc .vmem S24x3366 .f32) (m1 : FVec Ideal S24x3248 .f32) (o : ℕ) (ho : o + 3248 ≤ 3366) (i : Fin 24) (p : Fin 3248) :
    padRd v m1 o ho (ix2 i p) = padv m1 i (o + p.val) := by
  rw [padRd, View.readCov_eq_canon']
  refine (padList_at m1 _).trans ?_
  have e0 : ((Rect.unit (s := S24x3366) ![0, o] S24x3248.size (lanes_ok 24 3366 o 3248 ho)).toLoadRect.idx (ix2 i p) 0) = i :=
    Fin.ext (by show 0 + 1 * i.val = i.val; omega)
  have e1 : ((Rect.unit (s := S24x3366) ![0, o] S24x3248.size (lanes_ok 24 3366 o 3248 ho)).toLoadRect.idx (ix2 i p) 1).val = o + p.val := by
    show o + 1 * p.val = o + p.val; omega
  exact congrArg₂ (padv m1) e0 e1

/-- What one copy holds, at an index of the matrix of the nine. -/
theorem colPiece_at (v : View sig .tc .vmem S24x3366 .f32) (m1 : FVec Ideal S24x3248 .f32) (k : ℕ) (hk : k < 9) (y : S216x3248.Idx) (z : S24x3248.Idx)
    (e0 : 24 * k + 1 * (z 0).val = (y 0).val) (e1 : 0 + 1 * (z 1).val = (y 1).val) :
    (colPiece (F := Ideal) v m1 k hk).2 z = colv m1 (y 0).val (y 1).val := by
  have hz0 : (z 0).val < 24 := (z 0).isLt
  show shapeCast S24x3248 (padRd v m1 (off k) (by have := off_le k; omega)) shapeCasts_S24x3248_S24x3248 z = _
  rw [shapeCast_self, eq_ix2 z]
  refine (padRd_at v m1 (off k) (by have := off_le k; omega) (z 0) (z 1)).trans ?_
  have a0 : (z 0 : Fin 24) = ⟨(y 0).val % 24, Nat.mod_lt _ (by decide)⟩ := Fin.ext (by show (z 0).val = (y 0).val % 24; omega)
  have a1 : off k + (z 1).val = off ((y 0).val / 24) + (y 1).val := by
    rw [show (y 0).val / 24 = k by omega]; omega
  exact congrArg₂ (padv m1) a0 a1

/-- What the nine copies hold at row `j` and lane `p`. -/
theorem colList_at (v : View sig .tc .vmem S24x3366 .f32) (m1 : FVec Ideal S24x3248 .f32) (y : S216x3248.Idx) :
    View.canon (Val := Elt Ideal) (colList v m1) y = colv m1 (y 0).val (y 1).val := by
  have P : ∀ (k : ℕ) (hk : k < 9) (y : S216x3248.Idx) (z : S24x3248.Idx), (colPiece (F := Ideal) v m1 k hk).1.emb z = y →
      (colPiece (F := Ideal) v m1 k hk).2 z = colv m1 (y 0).val (y 1).val := fun k hk y z hz =>
    colPiece_at v m1 k hk y z (congrArg (fun i : S216x3248.Idx => (i 0).val) hz) (congrArg (fun i : S216x3248.Idx => (i 1).val) hz)
  have hy0 : (y 0).val < 216 := (y 0).isLt
  have hy1 : (y 1).val < 3248 := (y 1).isLt
  have N : ∀ (k : ℕ) (hk : k < 9), (y 0).val < 24 * k → y ∉ (colPiece (F := Ideal) v m1 k hk).1.set := fun k hk h hm => by
    have e : 24 * k ≤ (y 0).val := ((Rect.mem_set_unit (s := S216x3248) (inb := rows_ok 216 3248 (24 * k) 24 (by omega))).mp hm 0).1
    omega
  have M : ∀ (k : ℕ) (hk : k < 9), 24 * k ≤ (y 0).val → (y 0).val < 24 * k + 24 → y ∈ (colPiece (F := Ideal) v m1 k hk).1.set := fun k hk h h' =>
    (Rect.mem_set_unit (s := S216x3248) (inb := rows_ok 216 3248 (24 * k) 24 (by omega))).mpr fun a => match a with
      | ⟨0, _⟩ => ⟨h, h'⟩
      | ⟨1, _⟩ => ⟨Nat.zero_le _, by show (y 1).val < 0 + 3248; omega⟩
  have step : ∀ (k : ℕ) (hk : k < 9) (l : List (View.Piece (Elt Ideal) S216x3248 .f32)), (y 0).val < 24 * k + 24 →
      ((y 0).val < 24 * k → View.canon (Val := Elt Ideal) l y = colv m1 (y 0).val (y 1).val) →
      View.canon (Val := Elt Ideal) (colPiece (F := Ideal) v m1 k hk :: l) y = colv m1 (y 0).val (y 1).val := by
    intro k hk l hlt hl
    by_cases h : 24 * k ≤ (y 0).val
    · exact canon_hit _ _ (M k hk h hlt) _ fun z hz => P k hk y z hz
    · rw [View.canon_cons_of_not_mem _ _ (N k hk (by omega))]
      exact hl (by omega)
  rw [colList]
  exact step 8 _ _ (by omega) fun h => step 7 _ _ (by omega) fun h => step 6 _ _ (by omega) fun h => step 5 _ _ (by omega) fun h =>
    step 4 _ _ (by omega) fun h => step 3 _ _ (by omega) fun h => step 2 _ _ (by omega) fun h => step 1 _ _ (by omega) fun h =>
    step 0 _ _ (by omega) fun h => absurd h (by omega)

/-- The nine copies loaded as one matrix: row `24 k + i` is channel `i` seen from neighbour `k`. -/
theorem colRd_at (v' : View sig .tc .vmem S216x3248 .f32) (v : View sig .tc .vmem S24x3366 .f32) (m1 : FVec Ideal S24x3248 .f32) (j : Fin 216) (p : Fin 3248) :
    colRd v' v m1 (ix2 j p) = colv m1 j.val p.val := by
  rw [colRd, View.readCov_eq_canon']
  refine (colList_at v m1 _).trans ?_
  have e0 : ((Rect.unit (s := S216x3248) ![0, 0] S216x3248.size (all_ok 216 3248)).toLoadRect.idx (ix2 j p) 0).val = j.val := by
    show 0 + 1 * j.val = j.val; omega
  have e1 : ((Rect.unit (s := S216x3248) ![0, 0] S216x3248.size (all_ok 216 3248)).toLoadRect.idx (ix2 j p) 1).val = p.val := by
    show 0 + 1 * p.val = p.val; omega
  exact congrArg₂ (colv m1) e0 e1

end Cert.KernelIdeal.Glcm
-- ==== Proof.Glcm.NetAt.lean ====
module

public import proofs.«01_k».proof.Proof.Glcm.ConvAt

/-! What the last point stores is the network of `Net`, at each lane that is a pixel. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

/-- An offset is that of a row and a column of the neighbourhood. -/
theorem off_eq : ∀ k : Fin 9, off k.val = 58 * (k.val / 3) + k.val % 3 := by decide

/-- A sum over the 216 rows of the nine copies is one over the neighbours and the channels. -/
theorem sum_rows (f : ℕ → EReal) : ∑ j : Fin 216, f j.val = ∑ k : Fin 9, ∑ i : Fin 24, f (i.val + 24 * k.val) := by
  rw [← Fintype.sum_prod_type']
  exact (Fintype.sum_equiv (finProdFinEquiv (m := 9) (n := 24)) (fun x => f (x.2.val + 24 * x.1.val)) (fun j : Fin (9 * 24) => f j.val) fun x => rfl).symm

/-- The padded scratch at the lane of row `a` and column `b`: the narrow channels with a border of zeros. -/
theorem padv_edge (M : Fin 24 → ℕ → ℕ → EReal) (m1 : FVec Ideal S24x3248 .f32)
    (hm : ∀ (i : Fin 24) (p : Fin 3248), m1 (ix2 i p) = if p.val % 58 < 56 then M i (p.val / 58) (p.val % 58) else 0)
    (i : Fin 24) (a b : ℕ) (ha : a < 58) (hb : b < 58) : padv m1 i (58 * a + b) = edge M i a b := by
  rw [edge]
  by_cases h : 59 ≤ 58 * a + b ∧ 58 * a + b < 3307
  · refine (dif_pos h).trans ((hm _ _).trans ?_)
    show (if (58 * a + b - 59) % 58 < 56 then M i ((58 * a + b - 59) / 58) ((58 * a + b - 59) % 58) else 0) = _
    by_cases hb' : 1 ≤ b ∧ b ≤ 56
    · have e : 58 * a + b - 59 = 58 * (a - 1) + (b - 1) := by omega
      rw [e, if_pos (by omega), if_pos (by omega), show (58 * (a - 1) + (b - 1)) / 58 = a - 1 by omega, show (58 * (a - 1) + (b - 1)) % 58 = b - 1 by omega]
    · rw [if_neg (by omega), if_neg (by omega)]
  · refine (dif_neg h).trans ?_
    rw [if_neg (by omega)]

/-- What the last point stores, at the lane of row `h` and column `w`. -/
theorem outV_at (v' : View sig .tc .vmem S216x3248 .f32) (v : View sig .tc .vmem S24x3366 .f32) (x : FVec Ideal S96x3248 .f32) (f : FVec Ideal S4x3248 .f32)
    (w1 : FVec Ideal S48x96 .f32) (t1 : FVec Ideal S48x4 .f32) (g1 b1 : FVec Ideal S48x1 .f32) (w2 : FVec Ideal S48x96 .f32) (t2 : FVec Ideal S48x4 .f32)
    (g2 b2 : FVec Ideal S48x1 .f32) (wm : FVec Ideal S24x48 .f32) (gm bm : FVec Ideal S24x1 .f32) (wn : FVec Ideal S48x216 .f32) (gn bn : FVec Ideal S48x1 .f32)
    (wa wb : FVec Ideal S96x48 .f32) (g3 b3 : FVec Ideal S96x1 .f32)
    (W1 : Fin 48 → Fin 100 → EReal) (W2 : Fin 48 → Fin 100 → EReal) (Wn : Fin 48 → Fin 24 → Fin 9 → EReal) (W3 : Fin 96 → Fin 96 → EReal)
    (X : Fin 96 → ℕ → ℕ → EReal) (T : Fin 4 → ℕ → ℕ → EReal)
    (hw1 : ∀ o c, w1 (ix2 o c) = W1 o (Fin.castAdd 4 c)) (ht1 : ∀ o r, t1 (ix2 o r) = W1 o (Fin.natAdd 96 r))
    (hw2 : ∀ o c, w2 (ix2 o c) = W2 o (Fin.castAdd 4 c)) (ht2 : ∀ o r, t2 (ix2 o r) = W2 o (Fin.natAdd 96 r))
    (hwn : ∀ (o : Fin 48) (k : Fin 9) (i : Fin 24), wn (ix2 o ⟨i.val + 24 * k.val, by omega⟩) = Wn o i k)
    (hwa : ∀ o i, wa (ix2 o i) = W3 o (Fin.castAdd 48 i)) (hwb : ∀ o i, wb (ix2 o i) = W3 o (Fin.natAdd 48 i))
    (hx : ∀ (c : Fin 96) (h w : ℕ) (hh : h < 56) (hw : w < 56), x (ix2 c ⟨58 * h + w, by omega⟩) = X c h w)
    (hT : ∀ (r : Fin 4) (h w : ℕ) (hh : h < 56) (hw : w < 56), tex f r ⟨58 * h + w, by omega⟩ = T r h w)
    (o : Fin 96) (h w : ℕ) (hh : h < 56) (hw : w < 56) :
    outV v' v x f w1 t1 g1 b1 w2 t2 g2 b2 wm gm bm wn gn bn wa wb g3 b3 (ix2 o ⟨58 * h + w, by omega⟩)
      = net W1 (fun o => g1 (ix2 o 0)) (fun o => b1 (ix2 o 0)) W2 (fun o => g2 (ix2 o 0)) (fun o => b2 (ix2 o 0)) (fun k o => wm (ix2 k o))
          (fun k => gm (ix2 k 0)) (fun k => bm (ix2 k 0)) Wn (fun o => gn (ix2 o 0)) (fun o => bn (ix2 o 0)) W3 (fun o => g3 (ix2 o 0))
          (fun o => b3 (ix2 o 0)) X T o h w := by
  -- the first mixing convolution
  have hH : ∀ (o : Fin 48) (h w : ℕ) (hh : h < 56) (hw : w < 56), k0_pay3266 (F := Ideal) x f w1 t1 g1 b1 (ix2 o ⟨58 * h + w, by omega⟩)
      = mix W1 (fun o => g1 (ix2 o 0)) (fun o => b1 (ix2 o 0)) (fun c => X c h w) (fun r => T r h w) o := by
    intro o h w hh hw
    rw [pay3266_at, mix]
    simp only [hw1, ht1, hx _ _ _ hh hw, hT _ _ _ hh hw]
  -- the narrow one, masked
  have hM : ∀ (i : Fin 24) (p : Fin 3248), k0_pay3267 (F := Ideal) (k0_pay3266 (F := Ideal) x f w1 t1 g1 b1) wm gm bm (ix2 i p)
      = if p.val % 58 < 56 then (fun (i : Fin 24) (h w : ℕ) => nar (fun k o => wm (ix2 k o)) (fun k => gm (ix2 k 0)) (fun k => bm (ix2 k 0))
          (mix W1 (fun o => g1 (ix2 o 0)) (fun o => b1 (ix2 o 0)) (fun c => X c h w) (fun r => T r h w)) i) i (p.val / 58) (p.val % 58) else 0 := by
    intro i p
    rw [pay3267_at]
    by_cases hp : p.val % 58 < 56
    · rw [if_pos hp, if_pos hp]
      show _ = nar _ _ _ _ _
      rw [nar]
      have hq : p.val / 58 < 56 := by omega
      have e : p = ⟨58 * (p.val / 58) + p.val % 58, by omega⟩ := Fin.ext (by show p.val = 58 * (p.val / 58) + p.val % 58; omega)
      simp only [← hH _ _ _ hq hp, ← e]
    · rw [if_neg hp, if_neg hp]
  rw [outV, pay1_at, net]
  show _ = fin _ _ _ _ _ _
  rw [fin]
  simp only [hwa, hwb]
  refine congrArg (fun s => act s _ _) (congrArg₂ (· + ·) (Finset.sum_congr rfl fun j _ => congrArg _ ?_) (Finset.sum_congr rfl fun j _ => congrArg _ ?_))
  · rw [pay3280_at, hH j h w hh hw, wid]
    refine congrArg (fun s : EReal => mix W1 (fun o => g1 (ix2 o 0)) (fun o => b1 (ix2 o 0)) (fun c => X c h w) (fun r => T r h w) j + act s (gn (ix2 j 0)) (bn (ix2 j 0))) ?_
    have e := sum_rows (fun n => if hn : n < 216 then wn (ix2 j ⟨n, hn⟩) * colv (k0_pay3267 (F := Ideal) (k0_pay3266 (F := Ideal) x f w1 t1 g1 b1) wm gm bm) n (58 * h + w) else 0)
    refine Eq.trans (Finset.sum_congr rfl fun n _ => ?_) (e.trans (Finset.sum_congr rfl fun k _ => Finset.sum_congr rfl fun i _ => ?_))
    · rw [dif_pos n.isLt, colRd_at]
    · have hi := i.isLt
      have hk := k.isLt
      rw [dif_pos (by omega : i.val + 24 * k.val < 216), hwn, colv]
      refine congrArg _ ?_
      have e1 : (⟨(i.val + 24 * k.val) % 24, Nat.mod_lt _ (by decide)⟩ : Fin 24) = i := Fin.ext (by show (i.val + 24 * k.val) % 24 = i.val; omega)
      have e2 : (i.val + 24 * k.val) / 24 = k.val := by omega
      rw [e1, e2, off_eq k, show 58 * (k.val / 3) + k.val % 3 + (58 * h + w) = 58 * (h + k.val / 3) + (w + k.val % 3) by ring]
      exact padv_edge _ _ hM i _ _ (by omega) (by omega)
  · rw [mix]
    refine congrArg (fun s => act s _ _) (congrArg₂ (· + ·) (Finset.sum_congr rfl fun c _ => ?_) (Finset.sum_congr rfl fun r _ => ?_))
    · rw [hw2, k0_pay3264, shapeCast_self, hx _ _ _ hh hw]
    · rw [ht2, ← hT _ _ _ hh hw, tex]

end Cert.KernelIdeal.Glcm
-- ==== Proof.Glcm.Totals.lean ====
module

public import proofs.«01_k».proof.Proof.Glcm.NetAt
public import proofs.«01_k».proof.Proof.Frames.KernelIdealFrame

/-! What the scratch of texture totals holds after each point, and what the last point stores. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

variable (m : (ℓ : Loc nD τ sig) → Buf (Elt Ideal) ℓ)

/-- The first point leaves its block's features. -/
theorem tot_A (c : Dev nD) (t : Fin cfg0.N) (h0 : t.val < 12) (h1 : t.val % 13 = 0) (h2 : ¬t.val % 13 = 12) (y : S4x3248.Idx) :
    (outsAt0 (F := Ideal) m c t.val t.isLt).2 y = ((0 + blk (iblk m c 0 t) (y 0) (y 1) : ℝ) : EReal) := by
  rw [outsAt0_A m c t h0 h1 h2]
  dsimp only
  unfold sout0_A_1
  refine (congrFun (View.read_writes_eq_canon _ _ _ (scover0_A_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) y).trans ?_
  rw [pieces_A]
  simp only [rd0_eq]
  exact listA_at _ _ _ y

/-- A later point adds its block's features. -/
theorem tot_B (c : Dev nD) (t : Fin cfg0.N) (h0 : t.val < 12) (h1 : ¬t.val % 13 = 0) (h2 : ¬t.val % 13 = 12) (A : ℕ → ℕ → ℝ)
    (hA : ∀ y : S4x3248.Idx, (outsAt0 (F := Ideal) m c (t.val - 1) (Nat.lt_of_le_of_lt (Nat.sub_le _ _) t.isLt)).2 y = ((A (y 0) (y 1) : ℝ) : EReal))
    (y : S4x3248.Idx) :
    (outsAt0 (F := Ideal) m c t.val t.isLt).2 y = ((A (y 0) (y 1) + blk (iblk m c 0 t) (y 0) (y 1) : ℝ) : EReal) := by
  rw [outsAt0_B m c t h0 h1 h2]
  dsimp only
  unfold sout0_B_1
  refine (congrFun (View.read_writes_eq_canon _ _ _ (scover0_B_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) y).trans ?_
  rw [pieces_B]
  simp only [rd0_eq]
  exact listB_at _ _ _ _ _ A hA y

/-- The features added by the points up to `n`. -/
def upTo (c : Dev nD) (n : ℕ) (r l : ℕ) : ℝ := ∑ k ∈ Finset.range (n + 1), if h : k < cfg0.N then blk (iblk (F := Ideal) m c 0 ⟨k, h⟩) r l else 0

/-- The totals after point `n` of the first twelve. -/
theorem tot_at (c : Dev nD) : ∀ (n : ℕ) (hn : n < 12) (h : n < cfg0.N) (y : S4x3248.Idx),
    (outsAt0 (F := Ideal) m c n h).2 y = ((upTo m c n (y 0) (y 1) : ℝ) : EReal) := by
  intro n
  induction n with
  | zero =>
    intro hn h y
    rw [upTo, Finset.sum_range_succ, Finset.sum_range_zero, dif_pos h]
    exact tot_A m c ⟨0, h⟩ (Nat.zero_lt_succ _) (Nat.zero_mod _) (by show ¬0 % 13 = 12; omega) y
  | succ n ih =>
    intro hn h y
    rw [upTo, Finset.sum_range_succ, dif_pos h]
    exact tot_B m c ⟨n + 1, h⟩ hn (by show ¬(n + 1) % 13 = 0; omega) (by show ¬(n + 1) % 13 = 12; omega) (upTo m c n) (fun y => ih (by omega) (by omega) y) y

/-- A store over the whole of the output. -/
def outPiece (g : FVec Ideal S96x3248 .f32) : View.Piece (Elt Ideal) S96x3248 .f32 :=
  ⟨Rect.unit (s := S96x3248) ![0, 0] S96x3248.size (all_ok 96 3248), g⟩

/-- A store over the whole of the output leaves what it stores. -/
theorem outPiece_at (g : FVec Ideal S96x3248 .f32) (y : S96x3248.Idx) : View.canon (Val := Elt Ideal) [outPiece g] y = g y := by
  have hy1 : (y 1).val < 3248 := (y 1).isLt
  have hm : y ∈ (outPiece g).1.set := (lane_mem 96 3248 0 3248 (by decide) y).mpr ⟨Nat.zero_le _, by omega⟩
  refine canon_hit _ _ hm _ fun z hz => congrArg g (funext fun a => ?_)
  match a with
  | ⟨0, _⟩ =>
    have e : 0 + 1 * (z 0).val = (y 0).val := congrArg (fun i : S96x3248.Idx => (i 0).val) hz
    exact Fin.ext (by show (z 0).val = (y 0).val; omega)
  | ⟨1, _⟩ =>
    have e : 0 + 1 * (z 1).val = (y 1).val := congrArg (fun i : S96x3248.Idx => (i 1).val) hz
    exact Fin.ext (by show (z 1).val = (y 1).val; omega)

/-- What the last point stores. -/
theorem out_C (c : Dev nD) (t : Fin cfg0.N) (h0 : ¬t.val < 12) (h2 : t.val % 13 = 12) (y : S96x3248.Idx) :
    (outsAt0 (F := Ideal) m c t.val t.isLt).1 y = outV scM0_3.view scM0_2.view (rdX (ms0_1 t) (hs0_1 t) (iblk m c 1 t))
      (outsAt0 (F := Ideal) m c (t.val - 1) (Nat.lt_of_le_of_lt (Nat.sub_le _ _) t.isLt)).2 (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) (iblk m c 14 t)
      (iblk m c 15 t) (iblk m c 16 t) (iblk m c 17 t) (iblk m c 18 t) (iblk m c 19 t) y := by
  rw [outsAt0_C m c t h0 h2]
  dsimp only
  unfold out0_C_20
  refine (congrFun (View.read_writes_eq_canon _ _ _ (cover0_C_20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) y).trans ?_
  rw [pieces_C]
  simp only [rdW_eq]
  exact outPiece_at _ y

end Cert.KernelIdeal.Glcm
-- ==== Proof.Glcm.Prefix.lean ====
module

public import proofs.«01_k».proof.Proof.Glcm.Totals
public import proofs.«01_k».proof.Proof.Frames.KernelIdealFrame

public import proofs.«01_k».proof.Proof.Gen.ReferenceIdeal.Read
public import Idealize.ShloMosaic.Lib.KernelVsHost
/-! What each block of the kernel holds, in terms of the named lines of the reference. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

variable (m : (ℓ : Loc nD τ sig) → Buf (Elt Ideal) ℓ)

/-- The argument buffers, read on device `c`. -/
abbrev arg (c : Dev nD) (b : Ref sig .tc) : b.ty.Contents (Elt Ideal) := m (c, Proc.tc.devRef b)

/-- The padded image read inside its border is the image. -/
theorem pad_inner (x : (⟨Cert.ReferenceIdeal.S1x96x56x56, .f32⟩ : BufTy).Contents (Elt Ideal)) (c : Fin 96) (a b : Fin 56) :
    Cert.ReferenceIdeal.Read.val_main_v21 (F := Ideal) x (ix3 c ⟨a.val + 1, by omega⟩ ⟨b.val + 1, by omega⟩) = Cert.ReferenceIdeal.Read.val_main_v0 (F := Ideal) x (ix3 c a b) := by
  have e1 : Cert.ReferenceIdeal.Read.val_main_v21 (F := Ideal) x (ix3 c ⟨a.val + 1, by omega⟩ ⟨b.val + 1, by omega⟩)
      = Cert.ReferenceIdeal.Read.val_main_v14 (F := Ideal) x (ix3 c ⟨a.val + 1, by omega⟩ b) := by
    unfold Cert.ReferenceIdeal.Read.val_main_v21
    generalize Cert.ReferenceIdeal.Read.val_main_v14 (F := Ideal) x = y
    exact concatenate_apply_piece (t := Cert.ReferenceIdeal.S96x58x58) (2 : Fin 3) [⟨Cert.ReferenceIdeal.S96x58x1, Cert.ReferenceIdeal.Read.val_main_v17 (F := Ideal) x⟩, ⟨Cert.ReferenceIdeal.S96x58x56, y⟩, ⟨Cert.ReferenceIdeal.S96x58x1, Cert.ReferenceIdeal.Read.val_main_v20 (F := Ideal) x⟩]
      _ _ 1 (by simp) Cert.ReferenceIdeal.S96x58x56 y rfl rfl 1 (by rfl)
      (ix3 c ⟨a.val + 1, by omega⟩ b) (fun q hq => match q, hq with
        | ⟨0, _⟩, _ => rfl
        | ⟨1, _⟩, _ => rfl
        | ⟨2, _⟩, hq => absurd rfl hq) (Nat.add_comm _ _)
  have e2 : Cert.ReferenceIdeal.Read.val_main_v14 (F := Ideal) x (ix3 c ⟨a.val + 1, by omega⟩ b)
      = Cert.ReferenceIdeal.Read.val_main_v7 (F := Ideal) x (ix3 c a b) := by
    unfold Cert.ReferenceIdeal.Read.val_main_v14
    generalize Cert.ReferenceIdeal.Read.val_main_v7 (F := Ideal) x = y
    exact concatenate_apply_piece (t := Cert.ReferenceIdeal.S96x58x56) (1 : Fin 3) [⟨Cert.ReferenceIdeal.S96x1x56, Cert.ReferenceIdeal.Read.val_main_v10 (F := Ideal) x⟩, ⟨Cert.ReferenceIdeal.S96x56x56, y⟩, ⟨Cert.ReferenceIdeal.S96x1x56, Cert.ReferenceIdeal.Read.val_main_v13 (F := Ideal) x⟩]
      _ _ 1 (by simp) Cert.ReferenceIdeal.S96x56x56 y rfl rfl 1 (by rfl)
      (ix3 c a b) (fun q hq => match q, hq with
        | ⟨0, _⟩, _ => rfl
        | ⟨1, _⟩, hq => absurd rfl hq
        | ⟨2, _⟩, _ => rfl) (Nat.add_comm _ _)
  have e3 : Cert.ReferenceIdeal.Read.val_main_v7 (F := Ideal) x (ix3 c a b) = Cert.ReferenceIdeal.Read.val_main_v0 (F := Ideal) x (ix3 c a b) := by
    unfold Cert.ReferenceIdeal.Read.val_main_v7
    generalize Cert.ReferenceIdeal.Read.val_main_v0 (F := Ideal) x = y
    exact concatenate_apply_piece (t := Cert.ReferenceIdeal.S96x56x56) (0 : Fin 3) [⟨Cert.ReferenceIdeal.S0x56x56, Cert.ReferenceIdeal.Read.val_main_v3 (F := Ideal) x⟩, ⟨Cert.ReferenceIdeal.S96x56x56, y⟩, ⟨Cert.ReferenceIdeal.S0x56x56, Cert.ReferenceIdeal.Read.val_main_v6 (F := Ideal) x⟩]
      _ _ 1 (by simp) Cert.ReferenceIdeal.S96x56x56 y rfl rfl 0 (by rfl)
      (ix3 c a b) (fun q hq => match q, hq with
        | ⟨0, _⟩, hq => absurd rfl hq
        | ⟨1, _⟩, _ => rfl
        | ⟨2, _⟩, _ => rfl) (Nat.zero_add _)
  rw [e1, e2, e3]

/-- The flattened padded image, as the kernel is given it. -/
theorem V_flat (c : Dev nD) : V m c main_v23 = pad S96x3368 ![0, 0] ![0, 4] ![0, 0]
    (shapeCast S96x3364 (Cert.ReferenceIdeal.Read.val_main_v21 (F := Ideal) (arg m c main_arg0)) shapeCasts_S96x58x58_S96x3364)
    (constant (F := Ideal) S_ .f32 0x00000000#32) pads_S96x3364_S96x3368_000_040 h_S_ := by
  unfold_abbrev_sides
  simp only [hostOps0, List.flatten_cons, List.flatten_nil, List.append_nil]
  sl_kernel_rfl

/-- Its lane `58 * a + b` is pixel `(a, b)` of the padded image. -/
theorem flat_at (c : Dev nD) (i : Fin 96) (a b : Fin 58) :
    V m c main_v23 (ix2 i ⟨58 * a.val + b.val, by omega⟩) = Cert.ReferenceIdeal.Read.val_main_v21 (F := Ideal) (arg m c main_arg0) (ix3 i a b) := by
  rw [V_flat]
  refine (pad_apply_of_inside ![0, 0] ![0, 4] ![0, 0] _ _ pads_S96x3364_S96x3368_000_040 h_S_ _ (ix2 i ⟨58 * a.val + b.val, by omega⟩) (fun q => match q with
    | ⟨0, _⟩ => by show i.val = 0 + i.val * (0 + 1); omega
    | ⟨1, _⟩ => by show 58 * a.val + b.val = 0 + (58 * a.val + b.val) * (0 + 1); omega)).trans ?_
  exact shapeCast_apply _ shapeCasts_S96x58x58_S96x3364 _ (ix3 i a b)
    (by rewrite [Shape.rowMajor_val_three, Shape.rowMajor_val_two]; show (i.val * 58 + a.val) * 58 + b.val = i.val * 3364 + (58 * a.val + b.val); omega)

/-- The first window's block at a feature point: eight channels of the flattened image. -/
theorem blk_0 (c : Dev nD) (t : Fin cfg0.N) (h : t.val < 12) (k : Fin 8) (l : Fin 3368) :
    iblk m c 0 t (ix2 k l) = V m c main_v23 (ix2 ⟨8 * t.val + k.val, by omega⟩ l) := by
  obtain ⟨e0, e1⟩ := (by decide +kernel : ∀ t : Fin grid0.N, t.val < 12 → win0_0.index t (0 : Fin 2) = t.val ∧ win0_0.index t (1 : Fin 2) = 0) t h
  show V m c main_v23 (((cfg0.win 0).blk t).view.emb (ix2 k l)) = _
  refine congrArg (V m c main_v23) (funext fun a => Fin.ext ?_)
  match a with
  | ⟨0, _⟩ => show win0_0.index t (0 : Fin 2) * 8 + 1 * k.val = 8 * t.val + k.val; omega
  | ⟨1, _⟩ => show win0_0.index t (1 : Fin 2) * 3368 + 1 * l.val = l.val; omega

/-- Every window but the first stays at its array's first block. -/
theorem index_zero : ∀ w : Fin 21, w ≠ 0 → ∀ (t : Fin grid0.N) (a : Fin (win0 w).shape.rank), (win0 w).index t a = 0 := by decide +kernel

/-- A block at index zero with the array's own sizes reads the array in place. -/
theorem whole_at {p q i0 i1 : ℕ} {α : Type} (v : (⟨2, ![p, q]⟩ : Shape).Idx → α) (e : (⟨2, ![p, q]⟩ : Shape).Idx → (⟨2, ![p, q]⟩ : Shape).Idx) (y : (⟨2, ![p, q]⟩ : Shape).Idx)
    (h0 : i0 = 0) (h1 : i1 = 0) (e0 : (e y 0).val = i0 * p + 1 * (y 0).val) (e1 : (e y 1).val = i1 * q + 1 * (y 1).val) : v (e y) = v y := by
  refine congrArg v (funext fun a => Fin.ext ?_)
  match a with
  | ⟨0, _⟩ => exact e0.trans (by rw [h0, Nat.zero_mul, Nat.zero_add, Nat.one_mul]; rfl)
  | ⟨1, _⟩ => exact e1.trans (by rw [h1, Nat.zero_mul, Nat.zero_add, Nat.one_mul]; rfl)

/-- Window 1 holds its whole array at every point. -/
theorem whole_1 (c : Dev nD) (t : Fin cfg0.N) (y : S96x3368.Idx) : iblk m c 1 t y = V m c main_v23 y :=
  whole_at (V m c main_v23) _ y (index_zero 1 (by decide) t 0) (index_zero 1 (by decide) t 1) rfl rfl

/-- Window 2 holds its whole array at every point. -/
theorem whole_2 (c : Dev nD) (t : Fin cfg0.N) (y : S48x96.Idx) : iblk m c 2 t y = V m c main_v29 y :=
  whole_at (V m c main_v29) _ y (index_zero 2 (by decide) t 0) (index_zero 2 (by decide) t 1) rfl rfl

/-- Window 3 holds its whole array at every point. -/
theorem whole_3 (c : Dev nD) (t : Fin cfg0.N) (y : S48x4.Idx) : iblk m c 3 t y = V m c main_v30 y :=
  whole_at (V m c main_v30) _ y (index_zero 3 (by decide) t 0) (index_zero 3 (by decide) t 1) rfl rfl

/-- Window 4 holds its whole array at every point. -/
theorem whole_4 (c : Dev nD) (t : Fin cfg0.N) (y : S48x1.Idx) : iblk m c 4 t y = V m c main_v31 y :=
  whole_at (V m c main_v31) _ y (index_zero 4 (by decide) t 0) (index_zero 4 (by decide) t 1) rfl rfl

/-- Window 5 holds its whole array at every point. -/
theorem whole_5 (c : Dev nD) (t : Fin cfg0.N) (y : S48x1.Idx) : iblk m c 5 t y = V m c main_v32 y :=
  whole_at (V m c main_v32) _ y (index_zero 5 (by decide) t 0) (index_zero 5 (by decide) t 1) rfl rfl

/-- Window 6 holds its whole array at every point. -/
theorem whole_6 (c : Dev nD) (t : Fin cfg0.N) (y : S48x96.Idx) : iblk m c 6 t y = V m c main_v33 y :=
  whole_at (V m c main_v33) _ y (index_zero 6 (by decide) t 0) (index_zero 6 (by decide) t 1) rfl rfl

/-- Window 7 holds its whole array at every point. -/
theorem whole_7 (c : Dev nD) (t : Fin cfg0.N) (y : S48x4.Idx) : iblk m c 7 t y = V m c main_v34 y :=
  whole_at (V m c main_v34) _ y (index_zero 7 (by decide) t 0) (index_zero 7 (by decide) t 1) rfl rfl

/-- Window 8 holds its whole array at every point. -/
theorem whole_8 (c : Dev nD) (t : Fin cfg0.N) (y : S48x1.Idx) : iblk m c 8 t y = V m c main_v35 y :=
  whole_at (V m c main_v35) _ y (index_zero 8 (by decide) t 0) (index_zero 8 (by decide) t 1) rfl rfl

/-- Window 9 holds its whole array at every point. -/
theorem whole_9 (c : Dev nD) (t : Fin cfg0.N) (y : S48x1.Idx) : iblk m c 9 t y = V m c main_v36 y :=
  whole_at (V m c main_v36) _ y (index_zero 9 (by decide) t 0) (index_zero 9 (by decide) t 1) rfl rfl

/-- Window 10 holds its whole array at every point. -/
theorem whole_10 (c : Dev nD) (t : Fin cfg0.N) (y : S24x48.Idx) : iblk m c 10 t y = V m c main_v37 y :=
  whole_at (V m c main_v37) _ y (index_zero 10 (by decide) t 0) (index_zero 10 (by decide) t 1) rfl rfl

/-- Window 11 holds its whole array at every point. -/
theorem whole_11 (c : Dev nD) (t : Fin cfg0.N) (y : S24x1.Idx) : iblk m c 11 t y = V m c main_v38 y :=
  whole_at (V m c main_v38) _ y (index_zero 11 (by decide) t 0) (index_zero 11 (by decide) t 1) rfl rfl

/-- Window 12 holds its whole array at every point. -/
theorem whole_12 (c : Dev nD) (t : Fin cfg0.N) (y : S24x1.Idx) : iblk m c 12 t y = V m c main_v39 y :=
  whole_at (V m c main_v39) _ y (index_zero 12 (by decide) t 0) (index_zero 12 (by decide) t 1) rfl rfl

/-- Window 13 holds its whole array at every point. -/
theorem whole_13 (c : Dev nD) (t : Fin cfg0.N) (y : S48x216.Idx) : iblk m c 13 t y = V m c main_v28 y :=
  whole_at (V m c main_v28) _ y (index_zero 13 (by decide) t 0) (index_zero 13 (by decide) t 1) rfl rfl

/-- Window 14 holds its whole array at every point. -/
theorem whole_14 (c : Dev nD) (t : Fin cfg0.N) (y : S48x1.Idx) : iblk m c 14 t y = V m c main_v40 y :=
  whole_at (V m c main_v40) _ y (index_zero 14 (by decide) t 0) (index_zero 14 (by decide) t 1) rfl rfl

/-- Window 15 holds its whole array at every point. -/
theorem whole_15 (c : Dev nD) (t : Fin cfg0.N) (y : S48x1.Idx) : iblk m c 15 t y = V m c main_v41 y :=
  whole_at (V m c main_v41) _ y (index_zero 15 (by decide) t 0) (index_zero 15 (by decide) t 1) rfl rfl

/-- Window 16 holds its whole array at every point. -/
theorem whole_16 (c : Dev nD) (t : Fin cfg0.N) (y : S96x48.Idx) : iblk m c 16 t y = V m c main_v42 y :=
  whole_at (V m c main_v42) _ y (index_zero 16 (by decide) t 0) (index_zero 16 (by decide) t 1) rfl rfl

/-- Window 17 holds its whole array at every point. -/
theorem whole_17 (c : Dev nD) (t : Fin cfg0.N) (y : S96x48.Idx) : iblk m c 17 t y = V m c main_v43 y :=
  whole_at (V m c main_v43) _ y (index_zero 17 (by decide) t 0) (index_zero 17 (by decide) t 1) rfl rfl

/-- Window 18 holds its whole array at every point. -/
theorem whole_18 (c : Dev nD) (t : Fin cfg0.N) (y : S96x1.Idx) : iblk m c 18 t y = V m c main_v44 y :=
  whole_at (V m c main_v44) _ y (index_zero 18 (by decide) t 0) (index_zero 18 (by decide) t 1) rfl rfl

/-- Window 19 holds its whole array at every point. -/
theorem whole_19 (c : Dev nD) (t : Fin cfg0.N) (y : S96x1.Idx) : iblk m c 19 t y = V m c main_v45 y :=
  whole_at (V m c main_v45) _ y (index_zero 19 (by decide) t 0) (index_zero 19 (by decide) t 1) rfl rfl

/-- The weights that the host cuts in two, each part a slice of its matrix. -/
theorem V_cuts (c : Dev nD) : V m c main_v29 = extractStridedSlice S48x96 ![0, 0] (Cert.ReferenceIdeal.Read.val_main_v284 (F := Ideal) (arg m c main_arg1)) slices_S48x100_S48x96_0_0
    ∧ V m c main_v30 = extractStridedSlice S48x4 ![0, 96] (Cert.ReferenceIdeal.Read.val_main_v284 (F := Ideal) (arg m c main_arg1)) slices_S48x100_S48x4_0_96
    ∧ V m c main_v33 = extractStridedSlice S48x96 ![0, 0] (Cert.ReferenceIdeal.Read.val_main_v385 (F := Ideal) (arg m c main_arg4)) slices_S48x100_S48x96_0_0
    ∧ V m c main_v34 = extractStridedSlice S48x4 ![0, 96] (Cert.ReferenceIdeal.Read.val_main_v385 (F := Ideal) (arg m c main_arg4)) slices_S48x100_S48x4_0_96
    ∧ V m c main_v42 = extractStridedSlice S96x48 ![0, 0] (Cert.ReferenceIdeal.Read.val_main_v405 (F := Ideal) (arg m c main_arg13)) slices_S96x96_S96x48_0_0
    ∧ V m c main_v43 = extractStridedSlice S96x48 ![0, 48] (Cert.ReferenceIdeal.Read.val_main_v405 (F := Ideal) (arg m c main_arg13)) slices_S96x96_S96x48_0_48 := by
  refine ⟨?_, ?_, ?_, ?_, ?_, ?_⟩ <;>
  · unfold_abbrev_sides
    simp only [hostOps0, List.flatten_cons, List.flatten_nil, List.append_nil]
    sl_kernel_rfl

/-- The scales and shifts that the host makes into columns. -/
theorem V_cols (c : Dev nD) : V m c main_v31 = broadcastInDim S48x1 ![0] bcast_S48_S48x1_0 (arg m c main_arg2)
    ∧ V m c main_v32 = broadcastInDim S48x1 ![0] bcast_S48_S48x1_0 (arg m c main_arg3)
    ∧ V m c main_v35 = broadcastInDim S48x1 ![0] bcast_S48_S48x1_0 (arg m c main_arg5)
    ∧ V m c main_v36 = broadcastInDim S48x1 ![0] bcast_S48_S48x1_0 (arg m c main_arg6)
    ∧ V m c main_v38 = broadcastInDim S24x1 ![0] bcast_S24_S24x1_0 (arg m c main_arg8)
    ∧ V m c main_v39 = broadcastInDim S24x1 ![0] bcast_S24_S24x1_0 (arg m c main_arg9)
    ∧ V m c main_v40 = broadcastInDim S48x1 ![0] bcast_S48_S48x1_0 (arg m c main_arg11)
    ∧ V m c main_v41 = broadcastInDim S48x1 ![0] bcast_S48_S48x1_0 (arg m c main_arg12)
    ∧ V m c main_v44 = broadcastInDim S96x1 ![0] bcast_S96_S96x1_0 (arg m c main_arg14)
    ∧ V m c main_v45 = broadcastInDim S96x1 ![0] bcast_S96_S96x1_0 (arg m c main_arg15) := by
  refine ⟨?_, ?_, ?_, ?_, ?_, ?_, ?_, ?_, ?_, ?_⟩ <;>
  · unfold_abbrev_sides
    simp only [hostOps0, List.flatten_cons, List.flatten_nil, List.append_nil]
    sl_kernel_rfl

/-- A slice of columns read at an entry. -/
theorem part_at {p q r s : ℕ} (x : FVec Ideal ⟨2, ![p, r]⟩ .f32) (h : (⟨2, ![p, r]⟩ : Shape).Slices ![0, s] ⟨2, ![p, q]⟩) (o : Fin p) (k : Fin q) (d : Fin r) (hd : d.val = s + k.val) :
    extractStridedSlice ⟨2, ![p, q]⟩ ![0, s] x h (ix2 o k) = x (ix2 o d) :=
  extractStridedSlice_apply _ _ _ _ _ (fun a => match a with
    | ⟨0, _⟩ => (Nat.zero_add o.val).symm
    | ⟨1, _⟩ => hd)

/-- A vector made into a column read at an entry. -/
theorem column_at {p : ℕ} (x : FVec Ideal ⟨1, ![p]⟩ .f32) (h : (⟨1, ![p]⟩ : Shape).BroadcastsInDim ⟨2, ![p, 1]⟩ ![0]) (o : Fin p) :
    broadcastInDim ⟨2, ![p, 1]⟩ ![0] h x (ix2 o (0 : Fin 1)) = x (ix1 o) :=
  broadcastInDim_apply _ _ _ _ _ (fun a => match a with
    | ⟨0, _⟩ => by show o.val = if p = 1 then 0 else o.val; split <;> omega)

/-- The first convolution at the image channels. -/
theorem wt_2 (c : Dev nD) (t : Fin cfg0.N) (o : Fin 48) (k : Fin 96) :
    iblk m c 2 t (ix2 o k) = Cert.ReferenceIdeal.Read.val_main_v284 (F := Ideal) (arg m c main_arg1) (ix2 o (Fin.castAdd 4 k)) :=
  (whole_2 m c t _).trans ((congrFun (V_cuts m c).1 _).trans (part_at _ _ o k _ (Nat.zero_add _).symm))

/-- The first convolution at the texture channels. -/
theorem wt_3 (c : Dev nD) (t : Fin cfg0.N) (o : Fin 48) (k : Fin 4) :
    iblk m c 3 t (ix2 o k) = Cert.ReferenceIdeal.Read.val_main_v284 (F := Ideal) (arg m c main_arg1) (ix2 o (Fin.natAdd 96 k)) :=
  (whole_3 m c t _).trans ((congrFun (V_cuts m c).2.1 _).trans (part_at _ _ o k _ rfl))

/-- The second convolution at the image channels. -/
theorem wt_6 (c : Dev nD) (t : Fin cfg0.N) (o : Fin 48) (k : Fin 96) :
    iblk m c 6 t (ix2 o k) = Cert.ReferenceIdeal.Read.val_main_v385 (F := Ideal) (arg m c main_arg4) (ix2 o (Fin.castAdd 4 k)) :=
  (whole_6 m c t _).trans ((congrFun (V_cuts m c).2.2.1 _).trans (part_at _ _ o k _ (Nat.zero_add _).symm))

/-- The second convolution at the texture channels. -/
theorem wt_7 (c : Dev nD) (t : Fin cfg0.N) (o : Fin 48) (k : Fin 4) :
    iblk m c 7 t (ix2 o k) = Cert.ReferenceIdeal.Read.val_main_v385 (F := Ideal) (arg m c main_arg4) (ix2 o (Fin.natAdd 96 k)) :=
  (whole_7 m c t _).trans ((congrFun (V_cuts m c).2.2.2.1 _).trans (part_at _ _ o k _ rfl))

/-- The last convolution at the main branch. -/
theorem wt_16 (c : Dev nD) (t : Fin cfg0.N) (o : Fin 96) (k : Fin 48) :
    iblk m c 16 t (ix2 o k) = Cert.ReferenceIdeal.Read.val_main_v405 (F := Ideal) (arg m c main_arg13) (ix2 o (Fin.castAdd 48 k)) :=
  (whole_16 m c t _).trans ((congrFun (V_cuts m c).2.2.2.2.1 _).trans (part_at _ _ o k _ (Nat.zero_add _).symm))

/-- The last convolution at the short branch. -/
theorem wt_17 (c : Dev nD) (t : Fin cfg0.N) (o : Fin 96) (k : Fin 48) :
    iblk m c 17 t (ix2 o k) = Cert.ReferenceIdeal.Read.val_main_v405 (F := Ideal) (arg m c main_arg13) (ix2 o (Fin.natAdd 48 k)) :=
  (whole_17 m c t _).trans ((congrFun (V_cuts m c).2.2.2.2.2 _).trans (part_at _ _ o k _ rfl))

/-- Window 4 is argument 2 as a column. -/
theorem vec_4 (c : Dev nD) (t : Fin cfg0.N) (o : Fin 48) : iblk m c 4 t (ix2 o (0 : Fin 1)) = arg m c main_arg2 (ix1 o) :=
  (whole_4 m c t _).trans ((congrFun (V_cols m c).1 _).trans (column_at _ _ o))

/-- Window 5 is argument 3 as a column. -/
theorem vec_5 (c : Dev nD) (t : Fin cfg0.N) (o : Fin 48) : iblk m c 5 t (ix2 o (0 : Fin 1)) = arg m c main_arg3 (ix1 o) :=
  (whole_5 m c t _).trans ((congrFun (V_cols m c).2.1 _).trans (column_at _ _ o))

/-- Window 8 is argument 5 as a column. -/
theorem vec_8 (c : Dev nD) (t : Fin cfg0.N) (o : Fin 48) : iblk m c 8 t (ix2 o (0 : Fin 1)) = arg m c main_arg5 (ix1 o) :=
  (whole_8 m c t _).trans ((congrFun (V_cols m c).2.2.1 _).trans (column_at _ _ o))

/-- Window 9 is argument 6 as a column. -/
theorem vec_9 (c : Dev nD) (t : Fin cfg0.N) (o : Fin 48) : iblk m c 9 t (ix2 o (0 : Fin 1)) = arg m c main_arg6 (ix1 o) :=
  (whole_9 m c t _).trans ((congrFun (V_cols m c).2.2.2.1 _).trans (column_at _ _ o))

/-- Window 11 is argument 8 as a column. -/
theorem vec_11 (c : Dev nD) (t : Fin cfg0.N) (o : Fin 24) : iblk m c 11 t (ix2 o (0 : Fin 1)) = arg m c main_arg8 (ix1 o) :=
  (whole_11 m c t _).trans ((congrFun (V_cols m c).2.2.2.2.1 _).trans (column_at _ _ o))

/-- Window 12 is argument 9 as a column. -/
theorem vec_12 (c : Dev nD) (t : Fin cfg0.N) (o : Fin 24) : iblk m c 12 t (ix2 o (0 : Fin 1)) = arg m c main_arg9 (ix1 o) :=
  (whole_12 m c t _).trans ((congrFun (V_cols m c).2.2.2.2.2.1 _).trans (column_at _ _ o))

/-- Window 14 is argument 11 as a column. -/
theorem vec_14 (c : Dev nD) (t : Fin cfg0.N) (o : Fin 48) : iblk m c 14 t (ix2 o (0 : Fin 1)) = arg m c main_arg11 (ix1 o) :=
  (whole_14 m c t _).trans ((congrFun (V_cols m c).2.2.2.2.2.2.1 _).trans (column_at _ _ o))

/-- Window 15 is argument 12 as a column. -/
theorem vec_15 (c : Dev nD) (t : Fin cfg0.N) (o : Fin 48) : iblk m c 15 t (ix2 o (0 : Fin 1)) = arg m c main_arg12 (ix1 o) :=
  (whole_15 m c t _).trans ((congrFun (V_cols m c).2.2.2.2.2.2.2.1 _).trans (column_at _ _ o))

/-- Window 18 is argument 14 as a column. -/
theorem vec_18 (c : Dev nD) (t : Fin cfg0.N) (o : Fin 96) : iblk m c 18 t (ix2 o (0 : Fin 1)) = arg m c main_arg14 (ix1 o) :=
  (whole_18 m c t _).trans ((congrFun (V_cols m c).2.2.2.2.2.2.2.2.1 _).trans (column_at _ _ o))

/-- Window 19 is argument 15 as a column. -/
theorem vec_19 (c : Dev nD) (t : Fin cfg0.N) (o : Fin 96) : iblk m c 19 t (ix2 o (0 : Fin 1)) = arg m c main_arg15 (ix1 o) :=
  (whole_19 m c t _).trans ((congrFun (V_cols m c).2.2.2.2.2.2.2.2.2 _).trans (column_at _ _ o))

/-- Window 10 is the narrow convolution. -/
theorem wt_10 (c : Dev nD) (t : Fin cfg0.N) (y : S24x48.Idx) : iblk m c 10 t y = Cert.ReferenceIdeal.Read.val_main_v303 (F := Ideal) (arg m c main_arg7) y := by
  rw [whole_10]
  have e : V m c main_v37 = Cert.ReferenceIdeal.Read.val_main_v303 (F := Ideal) (arg m c main_arg7) := by
    unfold_abbrev_sides
    simp only [hostOps0, List.flatten_cons, List.flatten_nil, List.append_nil]
    sl_kernel_rfl
  rw [e]

/-- Window 13 is the wide convolution, tap by tap. -/
theorem wt_13 (c : Dev nD) (t : Fin cfg0.N) (o : Fin 48) (k : Fin 9) (i : Fin 24) :
    iblk m c 13 t (ix2 o ⟨i.val + 24 * k.val, by omega⟩) = arg m c main_arg10 (ix4 o i ⟨k.val / 3, by omega⟩ ⟨k.val % 3, by omega⟩) := by
  rw [whole_13]
  have e : V m c main_v28 = shapeCast S48x216 (transpose S48x3x3x24 [0, 2, 3, 1] (arg m c main_arg10) transposes_S48x24x3x3_S48x3x3x24_0_2_3_1) shapeCasts_S48x3x3x24_S48x216 := by
    unfold_abbrev_sides
    simp only [hostOps0, List.flatten_cons, List.flatten_nil, List.append_nil]
    sl_kernel_rfl
  rw [e]
  refine (shapeCast_apply _ shapeCasts_S48x3x3x24_S48x216 _ (ix4 o ⟨k.val / 3, by omega⟩ ⟨k.val % 3, by omega⟩ i)
    (by rewrite [Shape.rowMajor_val_four, Shape.rowMajor_val_two]; show ((o.val * 3 + k.val / 3) * 3 + k.val % 3) * 24 + i.val = o.val * 216 + (i.val + 24 * k.val); omega)).trans ?_
  exact transpose_apply _ _ _ _ _ (fun q => match q with | ⟨0, _⟩ => rfl | ⟨1, _⟩ => rfl | ⟨2, _⟩ => rfl | ⟨3, _⟩ => rfl)

end Cert.KernelIdeal.Glcm
-- ==== Proof.Glcm.Spec.lean ====
module

public import proofs.«01_k».proof.Proof.Glcm.Fb
public import proofs.«01_k».proof.Proof.Glcm.Net
public import proofs.«01_k».proof.Proof.Gen.ReferenceIdeal.Read

/-! The value both programs compute, over the arguments. -/

@[expose] public section

noncomputable section

namespace Cert.Glcm

open Idealize.ShloMosaic Idealize.ShloMosaic.ValueIdx Cert.ReferenceIdeal Cert.ReferenceIdeal.Read
open Cert.KernelIdeal.Glcm (lev lev_lt feat)

/-- The image argument. -/
abbrev Img : Type := (⟨S1x96x56x56, .f32⟩ : BufTy).Contents (Elt Ideal)

/-- The level of pixel `(a, b)` of channel `c` of the padded image. -/
def plev (x : Img) (c a b : ℕ) : ℕ :=
  if h : c < 96 ∧ a < 58 ∧ b < 58 then lev (val_main_v21 (F := Ideal) x (ix3 ⟨c, h.1⟩ ⟨a, h.2.1⟩ ⟨b, h.2.2⟩)) else 0

/-- A level of the padded image is below eight. -/
theorem plev_lt (x : Img) (c a b : ℕ) : plev x c a b < 8 := by
  unfold plev
  split
  · exact lev_lt _
  · omega

/-- The nine levels around pixel `(h, w)`, row by row. -/
def nbh (x : Img) (c h w k : ℕ) : ℕ := plev x c (h + min k 8 / 3) (w + min k 8 % 3)

/-- A level around a pixel is below eight. -/
theorem nbh_lt (x : Img) (c h w k : ℕ) : nbh x c h w k < 8 := plev_lt _ _ _ _

/-- A feature added over the channels. -/
def ftot (x : Img) (r h w : ℕ) : ℝ := ∑ c ∈ Finset.range 96, feat (nbh x c h w) r

/-- The scale of a feature. -/
def fscale (r : ℕ) : ℝ := if r = 1 then 1 / 38400 else if r = 2 then -1 / 1920 else 1 / 1920

/-- The four texture channels. -/
def texc (x : Img) (r : Fin 4) (h w : ℕ) : EReal := ((ftot x r.val h w * fscale r.val : ℝ) : EReal)

/-- The image channels. -/
def imgc (x : Img) (c : Fin 96) (h w : ℕ) : EReal :=
  if hb : h < 56 ∧ w < 56 then val_main_v0 (F := Ideal) x (ix3 c ⟨h, hb.1⟩ ⟨w, hb.2⟩) else 0

/-- The output at channel `o` of pixel `(h, w)`. -/
def outc (x0 : Img) (x1 : (⟨S48x100x1x1, .f32⟩ : BufTy).Contents (Elt Ideal)) (x2 x3 : (⟨S48, .f32⟩ : BufTy).Contents (Elt Ideal))
    (x4 : (⟨S48x100x1x1, .f32⟩ : BufTy).Contents (Elt Ideal)) (x5 x6 : (⟨S48, .f32⟩ : BufTy).Contents (Elt Ideal))
    (x7 : (⟨S24x48x1x1, .f32⟩ : BufTy).Contents (Elt Ideal)) (x8 x9 : (⟨S24, .f32⟩ : BufTy).Contents (Elt Ideal))
    (x10 : (⟨S48x24x3x3, .f32⟩ : BufTy).Contents (Elt Ideal)) (x11 x12 : (⟨S48, .f32⟩ : BufTy).Contents (Elt Ideal))
    (x13 : (⟨S96x96x1x1, .f32⟩ : BufTy).Contents (Elt Ideal)) (x14 x15 : (⟨S96, .f32⟩ : BufTy).Contents (Elt Ideal))
    (o : Fin 96) (h w : ℕ) : EReal :=
  net (fun o c => val_main_v284 (F := Ideal) x1 (ix2 o c)) (fun o => x2 (ix1 o)) (fun o => x3 (ix1 o)) (fun o c => val_main_v385 (F := Ideal) x4 (ix2 o c))
    (fun o => x5 (ix1 o)) (fun o => x6 (ix1 o)) (fun k o => val_main_v303 (F := Ideal) x7 (ix2 k o)) (fun k => x8 (ix1 k)) (fun k => x9 (ix1 k))
    (fun o i k => x10 (ix4 o i ⟨k.val / 3, by omega⟩ ⟨k.val % 3, by omega⟩)) (fun o => x11 (ix1 o)) (fun o => x12 (ix1 o))
    (fun o i => val_main_v405 (F := Ideal) x13 (ix2 o i)) (fun o => x14 (ix1 o)) (fun o => x15 (ix1 o)) (imgc x0) (texc x0) o h w

/-- Twelve blocks of eight channels are the ninety-six. -/
theorem sum_blocks (g : ℕ → ℝ) (n : ℕ) : ∑ t ∈ Finset.range n, ∑ c : Fin 8, g (8 * t + c.val) = ∑ c ∈ Finset.range (8 * n), g c := by
  induction n with
  | zero => rfl
  | succ n ih =>
    rw [Finset.sum_range_succ, ih, Nat.mul_succ, Finset.sum_range_add, Finset.sum_range (fun x => g (8 * n + x))]

/-- A feature depends on the nine levels alone. -/
theorem feat_congr {u v : ℕ → ℕ} (h : ∀ k, u k = v k) (r : ℕ) : feat u r = feat v r := by rw [funext h]

end Cert.Glcm
-- ==== Proof.Glcm.KerVal.lean ====
module

public import proofs.«01_k».proof.Proof.Glcm.Prefix
public import proofs.«01_k».proof.Proof.Glcm.Spec

/-! The kernel's output, over the arguments. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

variable (m : (ℓ : Loc nD τ sig) → Buf (Elt Ideal) ℓ)

/-- A neighbour's offset, from its row and its column. -/
theorem off_min (k : ℕ) : off k = 58 * (min k 8 / 3) + min k 8 % 3 := by
  by_cases h : k ≤ 8
  · interval_cases k <;> rfl
  · have e : min k 8 = 8 := by omega
    rw [e]
    match k, h with
    | k + 9, _ => rfl

/-- The levels a lane of a block reads are those around its pixel. -/
theorem lv_at (c : Dev nD) (t : Fin cfg0.N) (ht : t.val < 12) (i : Fin 8) (h w : ℕ) (hh : h < 56) (hw : w < 56) (k : ℕ) :
    lv (iblk (F := Ideal) m c 0 t) i (off k + (58 * h + w)) = nbh (arg m c main_arg0) (8 * t.val + i.val) h w k := by
  have e : off k + (58 * h + w) = 58 * (h + min k 8 / 3) + (w + min k 8 % 3) := by rw [off_min]; omega
  rw [e, nbh, plev, lv, dif_pos (by omega), dif_pos ⟨by omega, by omega, by omega⟩, blk_0 m c t ht]
  exact congrArg lev (flat_at m c ⟨8 * t.val + i.val, by omega⟩ ⟨h + min k 8 / 3, by omega⟩ ⟨w + min k 8 % 3, by omega⟩)

/-- The totals after the twelfth point are the features added over all channels. -/
theorem upTo_at (c : Dev nD) (r h w : ℕ) (hh : h < 56) (hw : w < 56) :
    upTo m c 11 r (58 * h + w) = ftot (arg m c main_arg0) r h w := by
  rw [upTo, ftot, show (96 : ℕ) = 8 * 12 from rfl, ← sum_blocks]
  refine Finset.sum_congr rfl fun t ht => ?_
  have ht' : t < 12 := Finset.mem_range.mp ht
  rw [dif_pos (show t < cfg0.N from lt_of_lt_of_eq (by omega) N_0.symm), blk]
  refine Finset.sum_congr rfl fun i _ => feat_congr (fun k => ?_) r
  exact lv_at m c ⟨t, _⟩ ht' i h w hh hw k

/-- The scaling of the totals. -/
theorem scale_at (f : Vec Ideal S4x3248 .f32) (g : ℕ → ℝ) (p : Fin 3248) (hf : ∀ r : Fin 4, f (ix2 r p) = ((g r.val : ℝ) : EReal)) (r : Fin 4) :
    tex f r p = ((g r.val * fscale r.val : ℝ) : EReal) := by
  have e0 : (Named.named κ "mean" 0x3A088889#32 : Ideal .f32) = (((1 / 1920 : ℝ)) : EReal) := IdealRules.named_const.ideal_named_scalar _ _ _ _ rfl
  have e1 : (Named.named κ "mean2" 0x37DA740E#32 : Ideal .f32) = (((1 / 38400 : ℝ)) : EReal) := IdealRules.named_const.ideal_named_scalar _ _ _ _ rfl
  have e2 : (Named.named κ "neg_mean" 0xBA088889#32 : Ideal .f32) = (((-1 / 1920 : ℝ)) : EReal) := IdealRules.named_const.ideal_named_scalar _ _ _ _ rfl
  unfold tex k0_pay3265
  dsimp only
  rw [mulf_apply, hf, EReal.coe_mul]
  refine congrArg (fun z : EReal => ((g r.val : ℝ) : EReal) * z) ?_
  refine (broadcastTo_apply _ _ _ (ix2 r (0 : Fin 1)) (fun a => match a with | ⟨0, _⟩ => rfl | ⟨1, _⟩ => rfl)).trans ?_
  rw [select_apply, select_apply, broadcast_apply, broadcast_apply, broadcast_apply, e0, e1, e2]
  match r with
  | ⟨0, _⟩ => rfl
  | ⟨1, _⟩ => rfl
  | ⟨2, _⟩ => rfl
  | ⟨3, _⟩ => rfl

/-- What the last point stores at a pixel. -/
theorem ker_at (c : Dev nD) (t : Fin cfg0.N) (ht : t.val = 12) (o : Fin 96) (h w : ℕ) (hh : h < 56) (hw : w < 56) :
    (outsAt0 (F := Ideal) m c t.val t.isLt).1 (ix2 o ⟨58 * h + w, by omega⟩)
      = outc (arg m c main_arg0) (arg m c main_arg1) (arg m c main_arg2) (arg m c main_arg3) (arg m c main_arg4) (arg m c main_arg5) (arg m c main_arg6)
          (arg m c main_arg7) (arg m c main_arg8) (arg m c main_arg9) (arg m c main_arg10) (arg m c main_arg11) (arg m c main_arg12) (arg m c main_arg13)
          (arg m c main_arg14) (arg m c main_arg15) o h w := by
  rw [out_C m c t (by omega) (by omega)]
  have hx : ∀ (i : Fin 96) (h w : ℕ) (hh : h < 56) (hw : w < 56),
      rdX (ms0_1 t) (hs0_1 t) (iblk (F := Ideal) m c 1 t) (ix2 i ⟨58 * h + w, by omega⟩) = imgc (arg m c main_arg0) i h w := by
    intro i h w hh hw
    rw [rdX_at, whole_1, imgc, dif_pos ⟨hh, hw⟩, ← pad_inner, ← flat_at]
    exact congrArg (fun l => V m c main_v23 (ix2 i l)) (Fin.ext (by show 59 + (58 * h + w) = 58 * (h + 1) + (w + 1); omega))
  have hT : ∀ (r : Fin 4) (h w : ℕ) (hh : h < 56) (hw : w < 56),
      tex (outsAt0 (F := Ideal) m c (t.val - 1) (Nat.lt_of_le_of_lt (Nat.sub_le _ _) t.isLt)).2 r ⟨58 * h + w, by omega⟩ = texc (arg m c main_arg0) r h w := by
    intro r h w hh hw
    rw [texc]
    refine scale_at _ (fun r => ftot (arg m c main_arg0) r h w) _ (fun r => ?_) r
    refine (tot_at m c (t.val - 1) (by omega) _ _).trans ?_
    have e : t.val - 1 = 11 := by omega
    rw [e]
    exact congrArg (fun z : ℝ => (z : EReal)) (upTo_at m c r.val h w hh hw)
  refine (outV_at _ _ _ _ _ _ _ _ _ _ _ _ _ _ _ _ _ _ _ _ _ _ (fun o i => Cert.ReferenceIdeal.Read.val_main_v284 (F := Ideal) (arg m c main_arg1) (ix2 o i))
    (fun o i => Cert.ReferenceIdeal.Read.val_main_v385 (F := Ideal) (arg m c main_arg4) (ix2 o i))
    (fun o i k => arg m c main_arg10 (ix4 o i ⟨k.val / 3, by omega⟩ ⟨k.val % 3, by omega⟩))
    (fun o i => Cert.ReferenceIdeal.Read.val_main_v405 (F := Ideal) (arg m c main_arg13) (ix2 o i)) (imgc (arg m c main_arg0)) (texc (arg m c main_arg0))
    (wt_2 m c t) (wt_3 m c t) (wt_6 m c t) (wt_7 m c t) (wt_13 m c t) (wt_16 m c t) (wt_17 m c t)
    hx hT o h w hh hw).trans ?_
  rw [outc]
  simp only [vec_4, vec_5, vec_8, vec_9, wt_10, vec_11, vec_12, vec_14, vec_15, vec_18, vec_19]

end Cert.KernelIdeal.Glcm
-- ==== Proof.Glcm.KerRun.lean ====
module

public import proofs.«01_k».proof.Proof.Glcm.KerVal

/-! What a run of the kernel leaves in its result buffer. -/

@[expose] public section

noncomputable section

namespace Cert.KernelIdeal.Glcm

open Idealize.ShloMosaic Idealize.ShloMosaic.TcCoe Idealize.ShloMosaic.ValueIdx Idealize.ShloMosaic.Ideal Idealize.ShloMosaic.Tactic
open Cert.KernelIdeal.Gen Cert.Glcm

variable (m : (ℓ : Loc nD τ sig) → Buf (Elt Ideal) ℓ)

/-- The last point. -/
abbrev last : Fin cfg0.N := ⟨12, lt_of_lt_of_eq (by decide) N_0.symm⟩

/-- The output's window stands at the same place at every point. -/
theorem index_20 (t : Fin cfg0.N) : win0_20.index t (0 : Fin 2) = 0 ∧ win0_20.index t (1 : Fin 2) = 0 :=
  (by decide +kernel : ∀ t : Fin grid0.N, win0_20.index t (0 : Fin 2) = 0 ∧ win0_20.index t (1 : Fin 2) = 0) t

/-- The output's array after the run is what the last point stores. -/
theorem final_out (c : Dev nD) : (dats (F := Ideal) m 0 c).arrAt 20 cfg0.N = (outsAt0 (F := Ideal) m c last.val last.isLt).1 := by
  refine (dats (F := Ideal) m 0 c).arrAt_eq_of_cover 20 _ (fun t hf => ?_) (fun i => ?_)
  · show (cfg0.win 20).cut (grid0.coords t) ((dats (F := Ideal) m 0 c).after 20 t) = _
    rw [after0_20]
    have hm : t.val % 13 = 12 := (flush0_20 t).mp hf
    have hN : t.val < 13 := lt_of_lt_of_eq t.isLt N_0
    have e : t = last := Fin.ext (by show t.val = 12; omega)
    obtain ⟨e0, e1⟩ := index_20 t
    funext y
    have hl : (cfg0.win 20).xinj (grid0.coords t) y = ((cfg0.win 20).blk t).view.emb y := by
      funext a
      apply Fin.ext
      match a with
      | ⟨0, _⟩ => show (y 0).val = win0_20.index t (0 : Fin 2) * 96 + 1 * (y 0).val; omega
      | ⟨1, _⟩ => show (y 1).val = win0_20.index t (1 : Fin 2) * 3248 + 1 * (y 1).val; omega
    show (outsAt0 (F := Ideal) m c t.val t.isLt).1 ((cfg0.win 20).xinj (grid0.coords t) y) = (outsAt0 (F := Ideal) m c last.val last.isLt).1 (((cfg0.win 20).blk t).view.emb y)
    rw [hl]
    subst e
    rfl
  · refine ⟨last, (flush0_20 last).mpr rfl, ?_⟩
    obtain ⟨e0, e1⟩ := index_20 last
    show i ∈ ((View.whole main_v46).slice (win0_20.rect last)).set
    rw [View.set_slice_whole, Rect.mem_set_unit]
    have h0 : (i 0).val < 96 := (i 0).isLt
    have h1 : (i 1).val < 3248 := (i 1).isLt
    intro a
    match a with
    | ⟨0, _⟩ => show win0_20.index last (0 : Fin 2) * 96 ≤ (i 0).val ∧ (i 0).val < win0_20.index last (0 : Fin 2) * 96 + 96; omega
    | ⟨1, _⟩ => show win0_20.index last (1 : Fin 2) * 3248 ≤ (i 1).val ∧ (i 1).val < win0_20.index last (1 : Fin 2) * 3248 + 3248; omega

/-- The lines after the region cut the rows of 58 lanes to 56 columns. -/
theorem tail_ops (W : Valuation τ sig (Elt Ideal)) : StableHlo.after (hostOps1 (F := Ideal)) W (Proc.devRef .tc main_v49)
    = broadcastInDim S1x96x56x56 ![1, 2, 3] bcast_S96x56x56_S1x96x56x56_1_2_3 (extractStridedSlice S96x56x56 ![0, 0, 0]
        (shapeCast S96x56x58 (W (Proc.devRef .tc main_v46)) shapeCasts_S96x3248_S96x56x58) slices_S96x56x58_S96x56x56_0_0_0) := by
  simp only [hostOps1]
  after_results_simp
  rfl

/-- The same of the arrays the region leaves. -/
theorem tail_eq (c : Dev nD) : Pipeline.afterTail₀ cfgs (dats (F := Ideal) m) 0 (V0 m) [hostOps1] c main_v49
    = broadcastInDim S1x96x56x56 ![1, 2, 3] bcast_S96x56x56_S1x96x56x56_1_2_3 (extractStridedSlice S96x56x56 ![0, 0, 0]
        (shapeCast S96x56x58 (outsAt0 (F := Ideal) m c last.val last.isLt).1 shapeCasts_S96x3248_S96x56x58) slices_S96x56x58_S96x56x56_0_0_0) := by
  have e : Pipeline.withArrays spec0 c (V0 m c) (fun w => (dats (F := Ideal) m 0 c).arrAt w cfg0.N) (Proc.devRef .tc main_v46)
      = (outsAt0 (F := Ideal) m c last.val last.isLt).1 :=
    ((dats (F := Ideal) m 0 c).withArrays_arrAt sharedIn0 (V0 m c) (A_eq m c) 20).trans (final_out m c)
  have q := tail_ops (Pipeline.withArrays spec0 c (V0 m c) (fun w => (dats (F := Ideal) m 0 c).arrAt w cfg0.N))
  rw [e] at q
  have f : ([hostOps1 (F := Ideal)]).flatten = hostOps1 := by simp
  unfold Pipeline.afterTail₀
  rw [f]
  exact q

/-- The result buffer, entry by entry. -/
theorem tail_at (c : Dev nD) (o : Fin 96) (h w : Fin 56) :
    Pipeline.afterTail₀ cfgs (dats (F := Ideal) m) 0 (V0 m) [hostOps1] c main_v49 (ix4 (0 : Fin 1) o h w)
      = outc (arg m c main_arg0) (arg m c main_arg1) (arg m c main_arg2) (arg m c main_arg3) (arg m c main_arg4) (arg m c main_arg5) (arg m c main_arg6)
          (arg m c main_arg7) (arg m c main_arg8) (arg m c main_arg9) (arg m c main_arg10) (arg m c main_arg11) (arg m c main_arg12) (arg m c main_arg13)
          (arg m c main_arg14) (arg m c main_arg15) o h.val w.val := by
  rw [tail_eq, ← ker_at m c last rfl o h.val w.val h.isLt w.isLt]
  generalize (outsAt0 (F := Ideal) m c last.val last.isLt).1 = y
  refine (broadcastInDim_apply _ _ _ _ (ix3 o h w) (fun a => match a with | ⟨0, _⟩ => rfl | ⟨1, _⟩ => rfl | ⟨2, _⟩ => rfl)).trans ?_
  refine (extractStridedSlice_apply _ _ slices_S96x56x58_S96x56x56_0_0_0 _ (ix3 o h ⟨w.val, by omega⟩) (fun a => match a with
    | ⟨0, _⟩ => by show o.val = 0 + o.val; omega
    | ⟨1, _⟩ => by show h.val = 0 + h.val; omega
    | ⟨2, _⟩ => by show w.val = 0 + w.val; omega)).trans ?_
  exact shapeCast_apply _ shapeCasts_S96x3248_S96x56x58 _ _
    (by rewrite [Shape.rowMajor_val_two, Shape.rowMajor_val_three]; show o.val * 3248 + (58 * h.val + w.val) = (o.val * 56 + h.val) * 58 + w.val; omega)

end Cert.KernelIdeal.Glcm
-- ==== Proof.Glcm.RefHist.lean ====
module

public import proofs.«01_k».proof.Proof.Glcm.Spec
public import Idealize.ShloMosaic.Lib.Routing.OpsPair

/-! The reference's histogram: twenty scatters of ones, each landing on the cell of its pair of levels. -/

@[expose] public section

noncomputable section

namespace Cert.Glcm

open Idealize.ShloMosaic Idealize.ShloMosaic.ValueIdx Idealize.ShloMosaic.Routing Cert.ReferenceIdeal Cert.ReferenceIdeal.Gen Cert.ReferenceIdeal.Read
open Cert.KernelIdeal.Glcm (lev lev_lt lev_word feat fst snd cnt pa pb)

/-- Where one of `N` scalars, each with one index word, lands in a vector of `R`: at the cell its word names. -/
theorem lands {N R : ℕ} (d : ScatterDims (shape1 R) (shape2 N 1) (shape1 N)) (hiw : d.insertedWindowDims = [0])
    (hsd : d.scatterDimsToOperandDims = [0]) (hiv : d.indexVectorDim = 1) (idx : IVec (shape2 N 1) 32) (i : Fin N) (x : Fin R) :
    d.resultIdx? (ix1 i) idx = some (ix1 x) ↔ (idx (ix2 i (0 : Fin 1))).toInt = (x.val : Int) := by
  have hw : d.window (ix1 i) 0 = 0 := by
    unfold ScatterDims.window
    refine dif_neg fun h => ?_
    have h2 := (List.mem_filter.1 h).2
    rw [hiw] at h2
    simp at h2
  have hmem : (0 : Fin 1) ∈ d.scatterDimsToOperandDims := hsd ▸ List.mem_singleton.2 rfl
  have hsi : ∀ c : Fin d.scatterDimsToOperandDims.length, d.siIdx (ix1 i) c = ix2 i (0 : Fin 1) := by
    intro c
    have hc : c.val < 1 := lt_of_lt_of_eq c.isLt (by rw [hsd]; rfl)
    funext b
    apply Fin.ext
    match b with
    | ⟨0, _⟩ =>
      have e : ∀ X : Fin 1, ((ix1 i : (shape1 N).Idx) X).val = i.val := fun X => by
        rw [Subsingleton.elim X 0]
      unfold ScatterDims.siIdx
      rw [dif_neg (by rw [hiv]; exact Nat.zero_ne_one)]
      unfold ScatterDims.siCoord
      simp only [Fin.val_cast]
      exact e _
    | ⟨1, _⟩ =>
      unfold ScatterDims.siIdx
      rw [dif_pos (by rw [hiv])]
      show c.val = 0
      omega
  rw [resultIdx?_ix1, hw]
  unfold ScatterDims.start
  rw [dif_pos hmem, hsi]
  simp

/-- One scatter of ones: where update `n` names cell `64 n + code n`, cell `64 n + a` gains one exactly when `code n` is `a`. -/
theorem hist_step {N R : ℕ} (d : ScatterDims (shape1 R) (shape2 N 1) (shape1 N)) (hiw : d.insertedWindowDims = [0])
    (hsd : d.scatterDimsToOperandDims = [0]) (hiv : d.indexVectorDim = 1) (x : FVec Ideal (shape1 R) .f32) (idx : IVec (shape2 N 1) 32)
    (upd : FVec Ideal (shape1 N) .f32) (code : Fin N → ℕ) (hcode : ∀ i, code i < 64) (hN : 64 * N < 2 ^ 31)
    (hidx : ∀ i, idx (ix2 i (0 : Fin 1)) = BitVec.ofNat 32 (64 * i.val + code i)) (hupd : ∀ i, upd (ix1 i) = 1)
    (n : Fin N) (a : ℕ) (ha : a < 64) (y : Fin R) (hy : y.val = 64 * n.val + a) :
    Host.scatterAdd d x idx upd (ix1 y) = x (ix1 y) + if code n = a then 1 else 0 := by
  show x (ix1 y) + ∑ j ∈ Finset.univ.filter (fun j => d.resultIdx? j idx = some (ix1 y)), upd j = _
  refine congrArg (fun z => x (ix1 y) + z) ?_
  have hl : ∀ i : Fin N, d.resultIdx? (ix1 i) idx = some (ix1 y) ↔ i = n ∧ code n = a := by
    intro i
    rw [lands d hiw hsd hiv, hidx, StableHlo.Predicate.toInt_ofNat_small _ (by have := hcode i; have := i.isLt; omega), hy]
    have h1 := hcode i
    constructor
    · intro h
      have h2 : i = n := Fin.ext (by omega)
      refine ⟨h2, ?_⟩
      rw [h2] at h
      omega
    · rintro ⟨rfl, h⟩
      rw [h]
  rw [Finset.sum_filter]
  refine (Finset.sum_eq_single (ix1 n) (fun j _ hj => if_neg fun h => ?_) (fun h => absurd (Finset.mem_univ _) h)).trans ?_
  · have e : j = ix1 (j 0) := eq_ix1 j
    rw [e] at h
    exact hj (e.trans (congrArg ix1 ((hl _).mp h).1))
  · rw [hupd]
    by_cases h : code n = a
    · rw [if_pos h, if_pos ((hl n).mpr ⟨rfl, h⟩)]
    · rw [if_neg h, if_neg fun h' => h ((hl n).mp h').2]

/-- The level words of the reference. -/
theorem word_lev (x : Img) (i : S96x58x58.Idx) : val_main_v28 (F := Ideal) x i = BitVec.ofNat 32 (lev (val_main_v21 (F := Ideal) x i)) := by
  rw [val_main_v28_apply, val_main_v26_apply, val_main_v24_apply, val_main_v23_apply, val_main_v27_apply, val_main_v25_apply, val_main_v22_apply]
  exact lev_word _

/-- A level by its coordinates. -/
theorem plev_at (x : Img) (i : S96x58x58.Idx) {c a b : ℕ} (h0 : (i 0).val = c) (h1 : (i 1).val = a) (h2 : (i 2).val = b) :
    lev (val_main_v21 (F := Ideal) x i) = plev x c a b := by
  subst h0 h1 h2
  unfold plev
  rw [dif_pos ⟨(i 0).isLt, (i 1).isLt, (i 2).isLt⟩]
  exact congrArg (fun j => lev (val_main_v21 (F := Ideal) x j)) (eq_ix3 i)

/-- The index word of a pair of levels at flat position `n`. -/
theorem word_pair (n A B : ℕ) : IntOp.addi (IntOp.addi (IntOp.muli (BitVec.ofNat 32 n) 64#32) (IntOp.muli (BitVec.ofNat 32 A) 8#32)) (BitVec.ofNat 32 B)
    = BitVec.ofNat 32 (64 * n + (8 * A + B)) := by
  show BitVec.ofNat 32 n * BitVec.ofNat 32 64 + BitVec.ofNat 32 A * BitVec.ofNat 32 8 + BitVec.ofNat 32 B = _
  rw [← BitVec.ofNat_mul, ← BitVec.ofNat_mul, ← BitVec.ofNat_add, ← BitVec.ofNat_add]
  exact congrArg (BitVec.ofNat 32) (by omega)

/-- The code of pair `k` of nine levels. -/
def code (u : ℕ → ℕ) (k : ℕ) : ℕ := 8 * fst u k + snd u k

/-- The nine levels around flat position `n`. -/
def nbf (x : Img) (n k : ℕ) : ℕ := nbh x (n / 3136) (n / 56 % 56) (n % 56) k

/-- A code is below sixty-four. -/
theorem code_lt (x : Img) (n k : ℕ) : code (nbf x n) k < 64 := by
  have h1 : fst (nbf x n) k < 8 := nbh_lt _ _ _ _ _
  have h2 : snd (nbf x n) k < 8 := nbh_lt _ _ _ _ _
  unfold code
  omega

/-- The base words. -/
theorem word_base (i : S96x56x56.Idx) : val_main_v32 (F := Ideal) i
    = IntOp.muli (BitVec.ofNat 32 (((i 0).val * 56 + (i 1).val) * 56 + (i 2).val)) 64#32 := by
  rw [val_main_v32_apply, val_main_v31_apply, val_main_v30_apply, val_main_v29_apply]
  rfl

/-- A flat position is put together from its channel, row and column. -/
theorem flat_back (n : ℕ) : (n / 3136 * 56 + n / 56 % 56) * 56 + n % 56 = n := by omega

/-- An index word put together from the base word at `j` and the level words at `ja` and `jb` names pair `k`'s cell of position `n`, where `j`
is position `n` and `ja` and `jb` are the pair's two neighbours of it. -/
theorem word_at (x : Img) (n : Fin 301056) (k : ℕ) {z : BitVec 32} (j : S96x56x56.Idx) (ja jb : S96x58x58.Idx)
    (hz : z = IntOp.addi (IntOp.addi (val_main_v32 (F := Ideal) j) (IntOp.muli (val_main_v28 (F := Ideal) x ja) 8#32)) (val_main_v28 (F := Ideal) x jb))
    (h0 : (j 0).val = n.val / 3136) (h1 : (j 1).val = n.val / 56 % 56) (h2 : (j 2).val = n.val % 56)
    (a0 : (ja 0).val = n.val / 3136) (a1 : (ja 1).val = n.val / 56 % 56 + min (pa k) 8 / 3) (a2 : (ja 2).val = n.val % 56 + min (pa k) 8 % 3)
    (b0 : (jb 0).val = n.val / 3136) (b1 : (jb 1).val = n.val / 56 % 56 + min (pb k) 8 / 3) (b2 : (jb 2).val = n.val % 56 + min (pb k) 8 % 3) :
    z = BitVec.ofNat 32 (64 * n.val + code (nbf x n.val) k) := by
  rw [hz, word_base, word_lev, word_lev, plev_at x ja a0 a1 a2, plev_at x jb b0 b1 b2, h0, h1, h2, flat_back]
  exact word_pair n.val _ _

/-- How many of the first `j` pairs have code `a`, as an extended real. -/
def part (u : ℕ → ℕ) (a : ℕ) : ℕ → EReal
  | 0 => 0
  | j + 1 => part u a j + if code u j = a then 1 else 0

/-- The array holds, cell by cell, how many of the first `k` pairs fall there. -/
def Counts (x : Img) (k : ℕ) (v : FVec Ideal S19267584 .f32) : Prop :=
  ∀ (n : Fin 301056) (a : ℕ), a < 64 → ∀ y : Fin 19267584, y.val = 64 * n.val + a → v (ix1 y) = part (nbf x n.val) a k

/-- One more scatter of ones counts one more pair. -/
theorem counts_step (x : Img) (k : ℕ) {v : FVec Ideal S19267584 .f32} (hv : Counts x k v) {idx : IVec S301056x1 32} {upd : FVec Ideal S301056 .f32}
    (hidx : ∀ n : Fin 301056, idx (ix2 n (0 : Fin 1)) = BitVec.ofNat 32 (64 * n.val + code (nbf x n.val) k)) (hupd : ∀ n : Fin 301056, upd (ix1 n) = 1) :
    Counts x (k + 1) (Host.scatterAdd scatter_S19267584_S301056x1_S301056_n_0_0_1 v idx upd) := by
  intro n a ha y hy
  refine (hist_step _ rfl rfl rfl _ _ _ (fun i => code (nbf x i.val) k) (fun i => code_lt _ _ _) (by norm_num) hidx hupd n a ha y hy).trans ?_
  rw [hv n a ha y hy]
  rfl

/-- No pair is counted at the start. -/
theorem counts_start (x : Img) : Counts x 0 (val_main_v33 (F := Ideal)) := fun _ _ _ y _ => (val_main_v33_apply (ix1 y)).trans Ideal.ofBits_zero_f32

/-- The histogram after pair 0. -/
theorem counts_0 (x : Img) : Counts x 1 (val_main_v43 (F := Ideal) x) :=
  counts_step x 0 (counts_start x) (fun n => word_at x n 0 _ _ _ (by rw [val_main_v41_apply, val_main_v40_apply, val_main_v39_apply, val_main_v38_apply, val_main_v37_apply, val_main_v36_apply, val_main_v34_apply, val_main_v35_apply]; rfl)
    rfl rfl rfl rfl rfl rfl rfl rfl (Nat.add_comm _ _)) (fun n => (val_main_v42_apply (ix1 n)).trans Ideal.ofBits_one_f32)

/-- The histogram after pair 1. -/
theorem counts_1 (x : Img) : Counts x 2 (val_main_v53 (F := Ideal) x) :=
  counts_step x 1 (counts_0 x) (fun n => word_at x n 1 _ _ _ (by rw [val_main_v51_apply, val_main_v50_apply, val_main_v49_apply, val_main_v48_apply, val_main_v47_apply, val_main_v46_apply, val_main_v44_apply, val_main_v45_apply]; rfl)
    rfl rfl rfl rfl rfl (Nat.add_comm _ _) rfl rfl (Nat.add_comm _ _)) (fun n => (val_main_v52_apply (ix1 n)).trans Ideal.ofBits_one_f32)

/-- The histogram after pair 2. -/
theorem counts_2 (x : Img) : Counts x 3 (val_main_v63 (F := Ideal) x) :=
  counts_step x 2 (counts_1 x) (fun n => word_at x n 2 _ _ _ (by rw [val_main_v61_apply, val_main_v60_apply, val_main_v59_apply, val_main_v58_apply, val_main_v57_apply, val_main_v56_apply, val_main_v54_apply, val_main_v55_apply]; rfl)
    rfl rfl rfl rfl (Nat.add_comm _ _) rfl rfl (Nat.add_comm _ _) (Nat.add_comm _ _)) (fun n => (val_main_v62_apply (ix1 n)).trans Ideal.ofBits_one_f32)

/-- The histogram after pair 3. -/
theorem counts_3 (x : Img) : Counts x 4 (val_main_v73 (F := Ideal) x) :=
  counts_step x 3 (counts_2 x) (fun n => word_at x n 3 _ _ _ (by rw [val_main_v71_apply, val_main_v70_apply, val_main_v69_apply, val_main_v68_apply, val_main_v67_apply, val_main_v66_apply, val_main_v64_apply, val_main_v65_apply]; rfl)
    rfl rfl rfl rfl (Nat.add_comm _ _) (Nat.add_comm _ _) rfl (Nat.add_comm _ _) (Nat.add_comm _ _)) (fun n => (val_main_v72_apply (ix1 n)).trans Ideal.ofBits_one_f32)

/-- The histogram after pair 4. -/
theorem counts_4 (x : Img) : Counts x 5 (val_main_v83 (F := Ideal) x) :=
  counts_step x 4 (counts_3 x) (fun n => word_at x n 4 _ _ _ (by rw [val_main_v81_apply, val_main_v80_apply, val_main_v79_apply, val_main_v78_apply, val_main_v77_apply, val_main_v76_apply, val_main_v74_apply, val_main_v75_apply]; rfl)
    rfl rfl rfl rfl (Nat.add_comm _ _) rfl rfl (Nat.add_comm _ _) (Nat.add_comm _ _)) (fun n => (val_main_v82_apply (ix1 n)).trans Ideal.ofBits_one_f32)

/-- The histogram after pair 5. -/
theorem counts_5 (x : Img) : Counts x 6 (val_main_v93 (F := Ideal) x) :=
  counts_step x 5 (counts_4 x) (fun n => word_at x n 5 _ _ _ (by rw [val_main_v91_apply, val_main_v90_apply, val_main_v89_apply, val_main_v88_apply, val_main_v87_apply, val_main_v86_apply, val_main_v84_apply, val_main_v85_apply]; rfl)
    rfl rfl rfl rfl (Nat.add_comm _ _) (Nat.add_comm _ _) rfl (Nat.add_comm _ _) (Nat.add_comm _ _)) (fun n => (val_main_v92_apply (ix1 n)).trans Ideal.ofBits_one_f32)

/-- The histogram after pair 6. -/
theorem counts_6 (x : Img) : Counts x 7 (val_main_v103 (F := Ideal) x) :=
  counts_step x 6 (counts_5 x) (fun n => word_at x n 6 _ _ _ (by rw [val_main_v101_apply, val_main_v100_apply, val_main_v99_apply, val_main_v98_apply, val_main_v97_apply, val_main_v96_apply, val_main_v94_apply, val_main_v95_apply]; rfl)
    rfl rfl rfl rfl rfl rfl rfl (Nat.add_comm _ _) rfl) (fun n => (val_main_v102_apply (ix1 n)).trans Ideal.ofBits_one_f32)

/-- The histogram after pair 7. -/
theorem counts_7 (x : Img) : Counts x 8 (val_main_v113 (F := Ideal) x) :=
  counts_step x 7 (counts_6 x) (fun n => word_at x n 7 _ _ _ (by rw [val_main_v111_apply, val_main_v110_apply, val_main_v109_apply, val_main_v108_apply, val_main_v107_apply, val_main_v106_apply, val_main_v104_apply, val_main_v105_apply]; rfl)
    rfl rfl rfl rfl rfl (Nat.add_comm _ _) rfl (Nat.add_comm _ _) (Nat.add_comm _ _)) (fun n => (val_main_v112_apply (ix1 n)).trans Ideal.ofBits_one_f32)

/-- The histogram after pair 8. -/
theorem counts_8 (x : Img) : Counts x 9 (val_main_v123 (F := Ideal) x) :=
  counts_step x 8 (counts_7 x) (fun n => word_at x n 8 _ _ _ (by rw [val_main_v121_apply, val_main_v120_apply, val_main_v119_apply, val_main_v118_apply, val_main_v117_apply, val_main_v116_apply, val_main_v114_apply, val_main_v115_apply]; rfl)
    rfl rfl rfl rfl rfl (Nat.add_comm _ _) rfl (Nat.add_comm _ _) (Nat.add_comm _ _)) (fun n => (val_main_v122_apply (ix1 n)).trans Ideal.ofBits_one_f32)

/-- The histogram after pair 9. -/
theorem counts_9 (x : Img) : Counts x 10 (val_main_v133 (F := Ideal) x) :=
  counts_step x 9 (counts_8 x) (fun n => word_at x n 9 _ _ _ (by rw [val_main_v131_apply, val_main_v130_apply, val_main_v129_apply, val_main_v128_apply, val_main_v127_apply, val_main_v126_apply, val_main_v124_apply, val_main_v125_apply]; rfl)
    rfl rfl rfl rfl (Nat.add_comm _ _) rfl rfl (Nat.add_comm _ _) rfl) (fun n => (val_main_v132_apply (ix1 n)).trans Ideal.ofBits_one_f32)

/-- The histogram after pair 10. -/
theorem counts_10 (x : Img) : Counts x 11 (val_main_v143 (F := Ideal) x) :=
  counts_step x 10 (counts_9 x) (fun n => word_at x n 10 _ _ _ (by rw [val_main_v141_apply, val_main_v140_apply, val_main_v139_apply, val_main_v138_apply, val_main_v137_apply, val_main_v136_apply, val_main_v134_apply, val_main_v135_apply]; rfl)
    rfl rfl rfl rfl (Nat.add_comm _ _) (Nat.add_comm _ _) rfl (Nat.add_comm _ _) (Nat.add_comm _ _)) (fun n => (val_main_v142_apply (ix1 n)).trans Ideal.ofBits_one_f32)

/-- The histogram after pair 11. -/
theorem counts_11 (x : Img) : Counts x 12 (val_main_v153 (F := Ideal) x) :=
  counts_step x 11 (counts_10 x) (fun n => word_at x n 11 _ _ _ (by rw [val_main_v151_apply, val_main_v150_apply, val_main_v149_apply, val_main_v148_apply, val_main_v147_apply, val_main_v146_apply, val_main_v144_apply, val_main_v145_apply]; rfl)
    rfl rfl rfl rfl (Nat.add_comm _ _) (Nat.add_comm _ _) rfl (Nat.add_comm _ _) (Nat.add_comm _ _)) (fun n => (val_main_v152_apply (ix1 n)).trans Ideal.ofBits_one_f32)

/-- The histogram after pair 12. -/
theorem counts_12 (x : Img) : Counts x 13 (val_main_v163 (F := Ideal) x) :=
  counts_step x 12 (counts_11 x) (fun n => word_at x n 12 _ _ _ (by rw [val_main_v161_apply, val_main_v160_apply, val_main_v159_apply, val_main_v158_apply, val_main_v157_apply, val_main_v156_apply, val_main_v154_apply, val_main_v155_apply]; rfl)
    rfl rfl rfl rfl rfl rfl rfl (Nat.add_comm _ _) (Nat.add_comm _ _)) (fun n => (val_main_v162_apply (ix1 n)).trans Ideal.ofBits_one_f32)

/-- The histogram after pair 13. -/
theorem counts_13 (x : Img) : Counts x 14 (val_main_v173 (F := Ideal) x) :=
  counts_step x 13 (counts_12 x) (fun n => word_at x n 13 _ _ _ (by rw [val_main_v171_apply, val_main_v170_apply, val_main_v169_apply, val_main_v168_apply, val_main_v167_apply, val_main_v166_apply, val_main_v164_apply, val_main_v165_apply]; rfl)
    rfl rfl rfl rfl rfl (Nat.add_comm _ _) rfl (Nat.add_comm _ _) (Nat.add_comm _ _)) (fun n => (val_main_v172_apply (ix1 n)).trans Ideal.ofBits_one_f32)

/-- The histogram after pair 14. -/
theorem counts_14 (x : Img) : Counts x 15 (val_main_v183 (F := Ideal) x) :=
  counts_step x 14 (counts_13 x) (fun n => word_at x n 14 _ _ _ (by rw [val_main_v181_apply, val_main_v180_apply, val_main_v179_apply, val_main_v178_apply, val_main_v177_apply, val_main_v176_apply, val_main_v174_apply, val_main_v175_apply]; rfl)
    rfl rfl rfl rfl (Nat.add_comm _ _) rfl rfl (Nat.add_comm _ _) (Nat.add_comm _ _)) (fun n => (val_main_v182_apply (ix1 n)).trans Ideal.ofBits_one_f32)

/-- The histogram after pair 15. -/
theorem counts_15 (x : Img) : Counts x 16 (val_main_v193 (F := Ideal) x) :=
  counts_step x 15 (counts_14 x) (fun n => word_at x n 15 _ _ _ (by rw [val_main_v191_apply, val_main_v190_apply, val_main_v189_apply, val_main_v188_apply, val_main_v187_apply, val_main_v186_apply, val_main_v184_apply, val_main_v185_apply]; rfl)
    rfl rfl rfl rfl (Nat.add_comm _ _) (Nat.add_comm _ _) rfl (Nat.add_comm _ _) (Nat.add_comm _ _)) (fun n => (val_main_v192_apply (ix1 n)).trans Ideal.ofBits_one_f32)

/-- The histogram after pair 16. -/
theorem counts_16 (x : Img) : Counts x 17 (val_main_v203 (F := Ideal) x) :=
  counts_step x 16 (counts_15 x) (fun n => word_at x n 16 _ _ _ (by rw [val_main_v201_apply, val_main_v200_apply, val_main_v199_apply, val_main_v198_apply, val_main_v197_apply, val_main_v196_apply, val_main_v194_apply, val_main_v195_apply]; rfl)
    rfl rfl rfl rfl rfl (Nat.add_comm _ _) rfl (Nat.add_comm _ _) rfl) (fun n => (val_main_v202_apply (ix1 n)).trans Ideal.ofBits_one_f32)

/-- The histogram after pair 17. -/
theorem counts_17 (x : Img) : Counts x 18 (val_main_v213 (F := Ideal) x) :=
  counts_step x 17 (counts_16 x) (fun n => word_at x n 17 _ _ _ (by rw [val_main_v211_apply, val_main_v210_apply, val_main_v209_apply, val_main_v208_apply, val_main_v207_apply, val_main_v206_apply, val_main_v204_apply, val_main_v205_apply]; rfl)
    rfl rfl rfl rfl rfl (Nat.add_comm _ _) rfl (Nat.add_comm _ _) (Nat.add_comm _ _)) (fun n => (val_main_v212_apply (ix1 n)).trans Ideal.ofBits_one_f32)

/-- The histogram after pair 18. -/
theorem counts_18 (x : Img) : Counts x 19 (val_main_v223 (F := Ideal) x) :=
  counts_step x 18 (counts_17 x) (fun n => word_at x n 18 _ _ _ (by rw [val_main_v221_apply, val_main_v220_apply, val_main_v219_apply, val_main_v218_apply, val_main_v217_apply, val_main_v216_apply, val_main_v214_apply, val_main_v215_apply]; rfl)
    rfl rfl rfl rfl (Nat.add_comm _ _) (Nat.add_comm _ _) rfl (Nat.add_comm _ _) rfl) (fun n => (val_main_v222_apply (ix1 n)).trans Ideal.ofBits_one_f32)

/-- The histogram after pair 19. -/
theorem counts_19 (x : Img) : Counts x 20 (val_main_v233 (F := Ideal) x) :=
  counts_step x 19 (counts_18 x) (fun n => word_at x n 19 _ _ _ (by rw [val_main_v231_apply, val_main_v230_apply, val_main_v229_apply, val_main_v228_apply, val_main_v227_apply, val_main_v226_apply, val_main_v224_apply, val_main_v225_apply]; rfl)
    rfl rfl rfl rfl (Nat.add_comm _ _) (Nat.add_comm _ _) rfl (Nat.add_comm _ _) (Nat.add_comm _ _)) (fun n => (val_main_v232_apply (ix1 n)).trans Ideal.ofBits_one_f32)

/-- The partial counts are a count. -/
theorem part_eq (u : ℕ → ℕ) (a b : ℕ) (hu : ∀ k, u k < 8) (hb : b < 8) (j : ℕ) :
    part u (8 * a + b) j = (((((Finset.range j).filter fun k => fst u k = a ∧ snd u k = b).card : ℕ) : ℝ) : EReal) := by
  induction j with
  | zero => simp [part]
  | succ j ih =>
    rw [part, ih, Finset.range_add_one, Finset.filter_insert]
    have h1 : fst u j < 8 := hu _
    have h2 : snd u j < 8 := hu _
    have hc : code u j = 8 * a + b ↔ fst u j = a ∧ snd u j = b := by
      unfold code
      omega
    by_cases h : fst u j = a ∧ snd u j = b
    · rw [if_pos (hc.mpr h), if_pos h, Finset.card_insert_of_notMem (by simp)]
      push_cast
      rfl
    · rw [if_neg (fun h' => h (hc.mp h')), if_neg h, add_zero]

/-- The reference's histogram counts the pairs of levels. -/
theorem hist_at (x : Img) (c : Fin 96) (h w : Fin 56) (a b : Fin 8) :
    val_main_v234 (F := Ideal) x (ix5 c h w a b) = (((cnt (fst (nbh x c.val h.val w.val)) (snd (nbh x c.val h.val w.val)) a.val b.val : ℕ) : ℝ) : EReal) := by
  rw [val_main_v234_apply]
  have hn : (c.val * 56 + h.val) * 56 + w.val < 301056 := by omega
  have hy : ((((c.val * 56 + h.val) * 56 + w.val) * 8 + a.val) * 8 + b.val) < 19267584 := by omega
  have e : idx_main_v234 (ix5 c h w a b) = ix1 (⟨_, hy⟩ : Fin 19267584) := by
    funext q
    match q with
    | ⟨0, _⟩ => rfl
  rw [e, counts_19 x ⟨(c.val * 56 + h.val) * 56 + w.val, hn⟩ (8 * a.val + b.val) (by omega) _ (by show _ = 64 * ((c.val * 56 + h.val) * 56 + w.val) + _; show (((c.val * 56 + h.val) * 56 + w.val) * 8 + a.val) * 8 + b.val = _; omega)]
  have en : nbf x ((c.val * 56 + h.val) * 56 + w.val) = nbh x c.val h.val w.val := by
    funext k
    unfold nbf
    have e1 : ((c.val * 56 + h.val) * 56 + w.val) / 3136 = c.val := by omega
    have e2 : ((c.val * 56 + h.val) * 56 + w.val) / 56 % 56 = h.val := by omega
    have e3 : ((c.val * 56 + h.val) * 56 + w.val) % 56 = w.val := by omega
    rw [e1, e2, e3]
  show part (nbf x ((c.val * 56 + h.val) * 56 + w.val)) _ 20 = _
  rw [en]
  exact part_eq _ _ _ (fun k => nbh_lt _ _ _ _ _) b.isLt 20

end Cert.Glcm
-- ==== Proof.Glcm.RefFeat.lean ====
module

public import proofs.«01_k».proof.Proof.Glcm.RefHist
public import Idealize.ShloMosaic.Lib.KernelVsHost

/-! The reference's four texture features, read off its histogram. -/

@[expose] public section

noncomputable section

namespace Cert.Glcm

open Idealize.ShloMosaic Idealize.ShloMosaic.ValueIdx Cert.ReferenceIdeal Cert.ReferenceIdeal.Gen Cert.ReferenceIdeal.Read
open Cert.KernelIdeal.Glcm (feat fst snd cnt cnt_sum dif mlt prb eps eps_eq eps_pos coe_sum8)

/-- A finite sum of reals, read as extended reals. -/
theorem coe_sum {ι : Type} (s : Finset ι) (f : ι → ℝ) : ∑ c ∈ s, ((f c : ℝ) : EReal) = ((∑ c ∈ s, f c : ℝ) : EReal) := by
  classical
  induction s using Finset.induction_on with
  | empty => simp
  | insert a s ha ih => rw [Finset.sum_insert ha, Finset.sum_insert ha, ih, EReal.coe_add]

/-- The word of the constant 4. -/
theorem four_eq : Ideal.ofBits .f32 0x40800000#32 = ((4 : ℝ) : EReal) := by
  simp [Ideal.ofBits, Ideal.ieee]
  norm_num
  try rw [← EReal.coe_mul]
  try norm_num

/-- The word of the constant 96. -/
theorem ninety_six_eq : Ideal.ofBits .f32 0x42C00000#32 = ((96 : ℝ) : EReal) := by
  simp [Ideal.ofBits, Ideal.ieee]
  norm_num
  try rw [← EReal.coe_mul]
  try norm_num

/-- A cell of the table by its coordinates. -/
theorem cell (j : S96x56x56x8x8.Idx) (c : Fin 96) (h w : Fin 56) (a b : Fin 8) (e0 : (j 0).val = c.val) (e1 : (j 1).val = h.val) (e2 : (j 2).val = w.val)
    (e3 : (j 3).val = a.val) (e4 : (j 4).val = b.val) : j = ix5 c h w a b := by
  funext q
  match q with
  | ⟨0, _⟩ => exact Fin.ext e0
  | ⟨1, _⟩ => exact Fin.ext e1
  | ⟨2, _⟩ => exact Fin.ext e2
  | ⟨3, _⟩ => exact Fin.ext e3
  | ⟨4, _⟩ => exact Fin.ext e4

/-- A table whose cells are the counts weighted adds up to the sum over the twenty pairs. -/
theorem table (u : ℕ → ℕ) (hu : ∀ k, u k < 8) (G : Fin 8 → Fin 8 → EReal) (f : ℕ → ℕ → ℝ)
    (hG : ∀ a b : Fin 8, G a b = ((((cnt (fst u) (snd u) a.val b.val : ℕ) : ℝ) * f a.val b.val : ℝ) : EReal)) :
    ∑ a : Fin 8, ∑ b : Fin 8, G a b = ((∑ k ∈ Finset.range 20, f (fst u k) (snd u k) : ℝ) : EReal) := by
  rw [← cnt_sum (fst u) (snd u) (fun k => hu _) (fun k => hu _) f, ← coe_sum]
  refine Finset.sum_congr rfl fun a _ => ?_
  rw [← coe_sum]
  exact Finset.sum_congr rfl fun b _ => hG a b

variable (x : Img) (c : Fin 96) (h w : Fin 56) (a b : Fin 8)

/-- The nine levels around the pixel. -/
abbrev lv : ℕ → ℕ := nbh x c.val h.val w.val

/-- A level is below eight. -/
theorem lv_lt (k : ℕ) : lv x c h w k < 8 := nbh_lt _ _ _ _ _

/-- The count of a cell as a real. -/
abbrev rc : ℝ := ((cnt (fst (lv x c h w)) (snd (lv x c h w)) a.val b.val : ℕ) : ℝ)

/-- Two sums in a row, over the two level axes of a table of weighted counts, are the sum over the twenty pairs. -/
theorem table_at (T : FVec Ideal S96x56x56x8x8 .f32) (f : ℕ → ℕ → ℝ) {z : EReal} {row : Fin 8 → EReal} {j : Fin 8 → Fin 8 → S96x56x56x8x8.Idx}
    (hz : z = Ideal.ofBits .f32 0x00000000#32 + ∑ a, row a) (hrow : ∀ a, row a = Ideal.ofBits .f32 0x00000000#32 + ∑ b, T (j a b)) (hj : ∀ a b, j a b = ix5 c h w a b)
    (hT : ∀ a b : Fin 8, T (ix5 c h w a b) = ((rc x c h w a b * f a.val b.val : ℝ) : EReal)) :
    z = ((∑ k ∈ Finset.range 20, f (fst (lv x c h w) k) (snd (lv x c h w) k) : ℝ) : EReal) := by
  rw [hz, Ideal.ofBits_zero_f32, zero_add, ← table (lv x c h w) (lv_lt x c h w) (fun a b => T (ix5 c h w a b)) f hT]
  refine Finset.sum_congr rfl fun a _ => ?_
  rw [hrow, Ideal.ofBits_zero_f32, zero_add]
  exact Finset.sum_congr rfl fun b _ => congrArg T (hj a b)

/-- A quarter of the histogram. -/
theorem quarter_at : val_main_v236 (F := Ideal) x (ix5 c h w a b) = ((rc x c h w a b * (1 / 4) : ℝ) : EReal) := by
  rw [val_main_v236_apply, hist_at, val_main_v235_apply]
  show Ideal.div _ (Ideal.ofBits .f32 0x40800000#32) = _
  rw [four_eq, Ideal.div_coe (by norm_num), ← EReal.coe_mul]

/-- The total of the quarters. -/
theorem total_at : val_main_v238 (F := Ideal) x (ix3 c h w) = ((∑ k ∈ Finset.range 20, (fun _ _ => 1 / 4) (fst (lv x c h w) k) (snd (lv x c h w) k) : ℝ) : EReal) :=
  table_at x c h w (val_main_v236 (F := Ideal) x) (fun _ _ => 1 / 4) (val_main_v238_apply x _) (fun _ => val_main_v237_apply x _) (fun a b => cell _ c h w a b rfl rfl rfl rfl rfl)
    (fun a b => quarter_at x c h w a b)

/-- The normalised histogram. -/
theorem gn_at : val_main_v243 (F := Ideal) x (ix5 c h w a b) = ((rc x c h w a b * (1 / 20) : ℝ) : EReal) := by
  have e : idx_main_v241 (idx_main_v242 (ix5 c h w a b)) = ix3 c h w := by
    funext q
    match q with
    | ⟨0, _⟩ => rfl
    | ⟨1, _⟩ => rfl
    | ⟨2, _⟩ => rfl
  rw [val_main_v243_apply, val_main_v242_apply, val_main_v241_apply, e, val_main_v240_apply, total_at, val_main_v239_apply, quarter_at]
  show Ideal.div _ (max _ (Ideal.ofBits .f32 0x358637BD#32)) = _
  have h5 : (∑ k ∈ Finset.range 20, (fun _ _ => 1 / 4 : ℕ → ℕ → ℝ) (fst (lv x c h w) k) (snd (lv x c h w) k)) = 5 := by
    rw [Finset.sum_const, Finset.card_range]
    norm_num
  have hm : max (5 : ℝ) eps = 5 := max_eq_left (by unfold eps; norm_num [zpow_neg])
  rw [h5, eps_eq, ← EReal.coe_strictMono.monotone.map_max, hm, Ideal.div_coe (by norm_num), ← EReal.coe_mul]
  congr 1
  ring

/-- The difference of the levels of a cell. -/
theorem diff_at : val_main_v250 (F := Ideal) (ix2 a b) = (((a.val : ℝ) - (b.val : ℝ) : ℝ) : EReal) := by
  rw [val_main_v250_apply, val_main_v248_apply, val_main_v249_apply, val_main_v246_apply, val_main_v247_apply, val_main_v245_apply, val_main_v245_apply,
    val_main_v244_apply, val_main_v244_apply]
  show (((BitVec.ofNat 32 a.val).toInt : ℝ) : EReal) - (((BitVec.ofNat 32 b.val).toInt : ℝ) : EReal) = _
  rw [StableHlo.Predicate.toInt_ofNat_small _ (by omega), StableHlo.Predicate.toInt_ofNat_small _ (by omega), ← EReal.coe_sub]
  push_cast
  rfl

/-- A cell's share of the contrast. -/
theorem con_at : val_main_v254 (F := Ideal) x (ix5 c h w a b) = ((rc x c h w a b * ((((a.val : ℝ) - (b.val : ℝ)) ^ 2) * (1 / 20)) : ℝ) : EReal) := by
  have e : idx_main_v252 (idx_main_v253 (ix5 c h w a b)) = ix2 a b := by
    funext q
    match q with
    | ⟨0, _⟩ => rfl
    | ⟨1, _⟩ => rfl
  rw [val_main_v254_apply, gn_at, val_main_v253_apply, val_main_v252_apply, e, val_main_v251_apply, diff_at]
  show (_ * _ : EReal) * _ = _
  rw [← EReal.coe_mul, ← EReal.coe_mul]
  congr 1
  ring

/-- A cell's share of the energy. -/
theorem ene_at : val_main_v257 (F := Ideal) x (ix5 c h w a b) = ((rc x c h w a b * (rc x c h w a b * (1 / 400)) : ℝ) : EReal) := by
  rw [val_main_v257_apply, gn_at]
  show (_ * _ : EReal) = _
  rw [← EReal.coe_mul]
  congr 1
  ring

/-- A cell's share of the entropy, its sign left. -/
theorem ent_at : val_main_v263 (F := Ideal) x (ix5 c h w a b) = ((rc x c h w a b * (Real.log (rc x c h w a b * (1 / 20) + eps) * (1 / 20)) : ℝ) : EReal) := by
  rw [val_main_v263_apply, val_main_v262_apply, val_main_v261_apply, val_main_v260_apply, gn_at]
  show ((rc x c h w a b * (1 / 20) : ℝ) : EReal) * Ideal.log (((rc x c h w a b * (1 / 20) : ℝ) : EReal) + Ideal.ofBits .f32 0x358637BD#32) = _
  have hp : 0 < rc x c h w a b * (1 / 20) + eps := by
    have := eps_pos
    positivity
  rw [eps_eq, ← EReal.coe_add, Ideal.log_coe, if_neg (not_le.mpr hp), ← EReal.coe_mul]
  congr 1
  ring

/-- A cell's share of the homogeneity. -/
theorem hom_at : val_main_v272 (F := Ideal) x (ix5 c h w a b) = ((rc x c h w a b * (1 / (1 + |(a.val : ℝ) - (b.val : ℝ)|) * (1 / 20)) : ℝ) : EReal) := by
  have e : idx_main_v270 (idx_main_v271 (ix5 c h w a b)) = ix2 a b := by
    funext q
    match q with
    | ⟨0, _⟩ => rfl
    | ⟨1, _⟩ => rfl
  rw [val_main_v272_apply, gn_at, val_main_v271_apply, val_main_v270_apply, e, val_main_v269_apply, val_main_v268_apply, val_main_v267_apply, diff_at]
  show Ideal.div _ (Ideal.ofBits .f32 0x3F800000#32 + max _ (-_)) = _
  have hp : 0 < 1 + |(a.val : ℝ) - (b.val : ℝ)| := by positivity
  rw [Ideal.ofBits_one_f32, ← EReal.coe_neg, ← EReal.coe_strictMono.monotone.map_max, ← abs, ← EReal.coe_one, ← EReal.coe_add, Ideal.div_coe hp.ne', ← EReal.coe_mul]
  congr 1
  ring

/-- The contrast of a channel. -/
theorem con_sum : val_main_v256 (F := Ideal) x (ix3 c h w) = ((∑ k ∈ Finset.range 20, (fun a b => ((a : ℝ) - (b : ℝ)) ^ 2 * (1 / 20)) (fst (lv x c h w) k) (snd (lv x c h w) k) : ℝ) : EReal) :=
  table_at x c h w (val_main_v254 (F := Ideal) x) (fun a b => ((a : ℝ) - (b : ℝ)) ^ 2 * (1 / 20)) (val_main_v256_apply x _) (fun _ => val_main_v255_apply x _) (fun a b => cell _ c h w a b rfl rfl rfl rfl rfl)
    (fun a b => con_at x c h w a b)

/-- The energy of a channel. -/
theorem ene_sum : val_main_v259 (F := Ideal) x (ix3 c h w) = ((∑ k ∈ Finset.range 20, (fun a b => ((cnt (fst (lv x c h w)) (snd (lv x c h w)) a b : ℕ) : ℝ) * (1 / 400)) (fst (lv x c h w) k) (snd (lv x c h w) k) : ℝ) : EReal) :=
  table_at x c h w (val_main_v257 (F := Ideal) x) (fun a b => ((cnt (fst (lv x c h w)) (snd (lv x c h w)) a b : ℕ) : ℝ) * (1 / 400)) (val_main_v259_apply x _) (fun _ => val_main_v258_apply x _) (fun a b => cell _ c h w a b rfl rfl rfl rfl rfl)
    (fun a b => ene_at x c h w a b)

/-- The entropy of a channel, its sign left. -/
theorem ent_sum : val_main_v265 (F := Ideal) x (ix3 c h w) = ((∑ k ∈ Finset.range 20, (fun a b => Real.log (((cnt (fst (lv x c h w)) (snd (lv x c h w)) a b : ℕ) : ℝ) * (1 / 20) + eps) * (1 / 20)) (fst (lv x c h w) k) (snd (lv x c h w) k) : ℝ) : EReal) :=
  table_at x c h w (val_main_v263 (F := Ideal) x) (fun a b => Real.log (((cnt (fst (lv x c h w)) (snd (lv x c h w)) a b : ℕ) : ℝ) * (1 / 20) + eps) * (1 / 20)) (val_main_v265_apply x _) (fun _ => val_main_v264_apply x _) (fun a b => cell _ c h w a b rfl rfl rfl rfl rfl)
    (fun a b => ent_at x c h w a b)

/-- The homogeneity of a channel. -/
theorem hom_sum : val_main_v274 (F := Ideal) x (ix3 c h w) = ((∑ k ∈ Finset.range 20, (fun a b => 1 / (1 + |(a : ℝ) - (b : ℝ)|) * (1 / 20)) (fst (lv x c h w) k) (snd (lv x c h w) k) : ℝ) : EReal) :=
  table_at x c h w (val_main_v272 (F := Ideal) x) (fun a b => 1 / (1 + |(a : ℝ) - (b : ℝ)|) * (1 / 20)) (val_main_v274_apply x _) (fun _ => val_main_v273_apply x _) (fun a b => cell _ c h w a b rfl rfl rfl rfl rfl)
    (fun a b => hom_at x c h w a b)

/-- Four maps stacked: the map of number `r`. -/
theorem stack_four (y : Fin 4 → FVec Ideal S96x1x56x56 .f32) (hc : Shape.Concatenates [S96x1x56x56, S96x1x56x56, S96x1x56x56, S96x1x56x56] S96x4x56x56 (1 : Fin 4)) (r : Fin 4) :
    concatenate S96x4x56x56 (1 : Fin 4) [⟨S96x1x56x56, y 0⟩, ⟨S96x1x56x56, y 1⟩, ⟨S96x1x56x56, y 2⟩, ⟨S96x1x56x56, y 3⟩] hc (ix4 c r h w) = y r (ix4 c (0 : Fin 1) h w) :=
  concatenate_apply_piece (t := S96x4x56x56) (1 : Fin 4) [⟨S96x1x56x56, y 0⟩, ⟨S96x1x56x56, y 1⟩, ⟨S96x1x56x56, y 2⟩, ⟨S96x1x56x56, y 3⟩] hc _ r.val r.isLt S96x1x56x56 (y r) (by fin_cases r <;> rfl) rfl r.val (by fin_cases r <;> rfl)
    (ix4 c (0 : Fin 1) h w) (fun q hq => match q, hq with
      | ⟨0, _⟩, _ => rfl
      | ⟨1, _⟩, hq => absurd rfl hq
      | ⟨2, _⟩, _ => rfl
      | ⟨3, _⟩, _ => rfl) rfl

/-- The four feature maps of a channel. -/
theorem feat_at (r : Fin 4) : val_main_v279 (F := Ideal) x (ix4 c r h w) = ((feat (lv x c h w) r.val * (fscale r.val * 96) : ℝ) : EReal) := by
  have e0 : val_main_v275 (F := Ideal) x (ix4 c (0 : Fin 1) h w) = ((feat (lv x c h w) 0 * (fscale 0 * 96) : ℝ) : EReal) := by
    rw [val_main_v275_apply]
    refine (congrArg _ (eq_ix3 _)).trans ((con_sum x c h w).trans (congrArg _ ?_))
    rw [← Finset.sum_mul]
    show _ = (∑ k ∈ Finset.range 20, dif (lv x c h w) k ^ 2) * _
    refine congrArg₂ (· * ·) rfl ?_
    norm_num [fscale]
  have e1 : val_main_v276 (F := Ideal) x (ix4 c (0 : Fin 1) h w) = ((feat (lv x c h w) 1 * (fscale 1 * 96) : ℝ) : EReal) := by
    rw [val_main_v276_apply]
    refine (congrArg _ (eq_ix3 _)).trans ((ene_sum x c h w).trans (congrArg _ ?_))
    rw [← Finset.sum_mul]
    show _ = (∑ k ∈ Finset.range 20, (mlt (lv x c h w) k : ℝ)) * _
    refine congrArg₂ (· * ·) rfl ?_
    norm_num [fscale]
  have e2 : val_main_v277 (F := Ideal) x (ix4 c (0 : Fin 1) h w) = ((feat (lv x c h w) 2 * (fscale 2 * 96) : ℝ) : EReal) := by
    rw [val_main_v277_apply, val_main_v266_apply]
    refine (congrArg (fun z => -(val_main_v265 (F := Ideal) x z : EReal)) (eq_ix3 _)).trans ?_
    refine (congrArg (fun z : EReal => -z) (ent_sum x c h w)).trans ?_
    rw [← EReal.coe_neg]
    refine congrArg _ ?_
    rw [← Finset.sum_mul]
    show -((∑ k ∈ Finset.range 20, Real.log (prb (lv x c h w) k)) * (1 / 20)) = (∑ k ∈ Finset.range 20, Real.log (prb (lv x c h w) k)) * _
    norm_num [fscale]
    try ring
  have e3 : val_main_v278 (F := Ideal) x (ix4 c (0 : Fin 1) h w) = ((feat (lv x c h w) 3 * (fscale 3 * 96) : ℝ) : EReal) := by
    rw [val_main_v278_apply]
    refine (congrArg _ (eq_ix3 _)).trans ((hom_sum x c h w).trans (congrArg _ ?_))
    rw [← Finset.sum_mul]
    show _ = (∑ k ∈ Finset.range 20, 1 / (1 + |dif (lv x c h w) k|)) * _
    refine congrArg₂ (· * ·) rfl ?_
    norm_num [fscale]
  refine (stack_four c h w ![val_main_v275 (F := Ideal) x, val_main_v276 (F := Ideal) x, val_main_v277 (F := Ideal) x, val_main_v278 (F := Ideal) x] _ r).trans ?_
  match r with
  | ⟨0, _⟩ => exact e0
  | ⟨1, _⟩ => exact e1
  | ⟨2, _⟩ => exact e2
  | ⟨3, _⟩ => exact e3

/-- The reference's four texture channels. -/
theorem tex_at (r : Fin 4) : val_main_v282 (F := Ideal) x (ix3 r h w) = texc x r h.val w.val := by
  rw [val_main_v282_apply, val_main_v281_apply, val_main_v280_apply]
  show Ideal.div (Ideal.ofBits .f32 0x00000000#32 + _) (Ideal.ofBits .f32 0x42C00000#32) = _
  rw [Ideal.ofBits_zero_f32, zero_add, ninety_six_eq, Ideal.div_coe (by norm_num)]
  have e : (∑ k : Fin 96, val_main_v279 (F := Ideal) x (idx_main_v280 (ix3 r h w) k)) = ((ftot x r.val h.val w.val * (fscale r.val * 96) : ℝ) : EReal) := by
    rw [ftot, Finset.sum_mul, Finset.sum_range, ← coe_sum]
    refine Finset.sum_congr rfl fun k _ => ?_
    exact (congrArg (val_main_v279 (F := Ideal) x) (eq_ix4 _)).trans (feat_at x k h w r)
  rw [e, ← EReal.coe_mul, texc]
  congr 1
  ring

end Cert.Glcm
-- ==== Proof.Glcm.RefNet.lean ====
module

public import proofs.«01_k».proof.Proof.Glcm.RefFeat

/-! The reference's convolutions over the image and its texture channels. -/

@[expose] public section

noncomputable section

namespace Cert.Glcm

open Idealize.ShloMosaic Idealize.ShloMosaic.ValueIdx Cert.ReferenceIdeal Cert.ReferenceIdeal.Gen Cert.ReferenceIdeal.Read

/-- A value over one plus the exponential of its negation is its activation. -/
theorem silu_eq (z : EReal) : z * Ideal.div (Ideal.ofBits .f32 0x3F800000#32) (Ideal.ofBits .f32 0x3F800000#32 + Ideal.exp (-z)) = silu z := by
  rw [Ideal.ofBits_one_f32]
  rfl

/-- Two arrays stacked along their channels: a channel of the first. -/
theorem stack_fst {p q r : ℕ} (y0 : FVec Ideal ⟨3, ![p, 56, 56]⟩ .f32) (y1 : FVec Ideal ⟨3, ![q, 56, 56]⟩ .f32)
    (hc : Shape.Concatenates [⟨3, ![p, 56, 56]⟩, ⟨3, ![q, 56, 56]⟩] ⟨3, ![r, 56, 56]⟩ (0 : Fin 3)) (c : Fin p) (d : Fin r) (h w : Fin 56) (hd : d.val = c.val) :
    concatenate ⟨3, ![r, 56, 56]⟩ (0 : Fin 3) [⟨⟨3, ![p, 56, 56]⟩, y0⟩, ⟨⟨3, ![q, 56, 56]⟩, y1⟩] hc (ix3 d h w) = y0 (ix3 c h w) :=
  concatenate_apply_piece (t := ⟨3, ![r, 56, 56]⟩) (0 : Fin 3) [⟨⟨3, ![p, 56, 56]⟩, y0⟩, ⟨⟨3, ![q, 56, 56]⟩, y1⟩] hc _ 0 (by simp) ⟨3, ![p, 56, 56]⟩ y0 rfl rfl 0 (by rfl)
    (ix3 c h w) (fun q hq => match q, hq with
      | ⟨0, _⟩, hq => absurd rfl hq
      | ⟨1, _⟩, _ => rfl
      | ⟨2, _⟩, _ => rfl) ((Nat.zero_add _).trans hd.symm)

/-- Two arrays stacked along their channels: a channel of the second. -/
theorem stack_snd {p q r : ℕ} (y0 : FVec Ideal ⟨3, ![p, 56, 56]⟩ .f32) (y1 : FVec Ideal ⟨3, ![q, 56, 56]⟩ .f32)
    (hc : Shape.Concatenates [⟨3, ![p, 56, 56]⟩, ⟨3, ![q, 56, 56]⟩] ⟨3, ![r, 56, 56]⟩ (0 : Fin 3)) (c : Fin q) (d : Fin r) (h w : Fin 56) (hd : d.val = p + c.val) :
    concatenate ⟨3, ![r, 56, 56]⟩ (0 : Fin 3) [⟨⟨3, ![p, 56, 56]⟩, y0⟩, ⟨⟨3, ![q, 56, 56]⟩, y1⟩] hc (ix3 d h w) = y1 (ix3 c h w) :=
  concatenate_apply_piece (t := ⟨3, ![r, 56, 56]⟩) (0 : Fin 3) [⟨⟨3, ![p, 56, 56]⟩, y0⟩, ⟨⟨3, ![q, 56, 56]⟩, y1⟩] hc _ 1 (by simp) ⟨3, ![q, 56, 56]⟩ y1 rfl rfl p (by rfl)
    (ix3 c h w) (fun q hq => match q, hq with
      | ⟨0, _⟩, hq => absurd rfl hq
      | ⟨1, _⟩, _ => rfl
      | ⟨2, _⟩, _ => rfl) hd.symm

/-- The reference's normalisation and activation at an entry. -/
theorem act_at {s : Shape} (y r g b one one' : FVec Ideal s .f32) (i : s.Idx) {g' b' : EReal} (hr : r i = dev) (hg : g i = g') (hb : b i = b')
    (h1 : one i = Ideal.ofBits .f32 0x3F800000#32) (h1' : one' i = Ideal.ofBits .f32 0x3F800000#32) :
    mulf (addf (mulf (Host.divf y r) g) b) (Host.divf one' (addf one (Host.exp (Host.negf (addf (mulf (Host.divf y r) g) b))))) i = act (y i) g' b' := by
  show (Ideal.div (y i) (r i) * g i + b i) * Ideal.div (one' i) (one i + Ideal.exp (-(Ideal.div (y i) (r i) * g i + b i))) = _
  rw [hr, hg, hb, h1, h1', norm_eq]
  exact silu_eq _

variable (x0 : Img) (x1 : (⟨S48x100x1x1, .f32⟩ : BufTy).Contents (Elt Ideal)) (x2 x3 : (⟨S48, .f32⟩ : BufTy).Contents (Elt Ideal))
    (x4 : (⟨S48x100x1x1, .f32⟩ : BufTy).Contents (Elt Ideal)) (x5 x6 : (⟨S48, .f32⟩ : BufTy).Contents (Elt Ideal)) (x7 : (⟨S24x48x1x1, .f32⟩ : BufTy).Contents (Elt Ideal)) (x8 x9 : (⟨S24, .f32⟩ : BufTy).Contents (Elt Ideal))
    (x10 : (⟨S48x24x3x3, .f32⟩ : BufTy).Contents (Elt Ideal)) (x11 x12 : (⟨S48, .f32⟩ : BufTy).Contents (Elt Ideal)) (x13 : (⟨S96x96x1x1, .f32⟩ : BufTy).Contents (Elt Ideal)) (x14 x15 : (⟨S96, .f32⟩ : BufTy).Contents (Elt Ideal)) (h w : Fin 56)

/-- The image and the texture channels stacked: an image channel. -/
theorem cat_img (c : Fin 96) : val_main_v283 (F := Ideal) x0 (ix3 (Fin.castAdd 4 c) h w) = imgc x0 c h.val w.val := by
  have e : imgc x0 c h.val w.val = val_main_v0 (F := Ideal) x0 (ix3 c h w) := by
    unfold imgc
    rw [dif_pos ⟨h.isLt, w.isLt⟩]
  rw [e]
  exact stack_fst _ _ _ c _ h w rfl

/-- A texture channel. -/
theorem cat_tex (r : Fin 4) : val_main_v283 (F := Ideal) x0 (ix3 (Fin.natAdd 96 r) h w) = texc x0 r h.val w.val := by
  rw [← tex_at]
  exact stack_snd _ _ _ r _ h w rfl

/-- The first branch, normalised and activated. -/
theorem act_a (o : Fin 48) : val_main_v302 (F := Ideal) x0 x1 x2 x3 (ix3 o h w) = act (val_main_v285 (F := Ideal) x0 x1 (ix3 o h w)) (x2 (ix1 o)) (x3 (ix1 o)) :=
  act_at _ _ _ _ _ _ (ix3 o h w) ((val_main_v288_apply _).trans (by rw [val_main_v287_apply, val_main_v286_apply]; rfl))
    ((val_main_v291_apply _ _).trans ((val_main_v290_apply _ _).trans (congrArg _ (eq_ix1 _)))) ((val_main_v294_apply _ _).trans ((val_main_v293_apply _ _).trans (congrArg _ (eq_ix1 _))))
    (val_main_v298_apply _) (val_main_v300_apply _)

/-- The narrow channels, normalised and activated. -/
theorem act_m (o : Fin 24) : val_main_v321 (F := Ideal) x0 x1 x2 x3 x7 x8 x9 (ix3 o h w) = act (val_main_v304 (F := Ideal) x0 x1 x2 x3 x7 (ix3 o h w)) (x8 (ix1 o)) (x9 (ix1 o)) :=
  act_at _ _ _ _ _ _ (ix3 o h w) ((val_main_v307_apply _).trans (by rw [val_main_v306_apply, val_main_v305_apply]; rfl))
    ((val_main_v310_apply _ _).trans ((val_main_v309_apply _ _).trans (congrArg _ (eq_ix1 _)))) ((val_main_v313_apply _ _).trans ((val_main_v312_apply _ _).trans (congrArg _ (eq_ix1 _))))
    (val_main_v317_apply _) (val_main_v319_apply _)

/-- The wide channels, normalised and activated. -/
theorem act_n (o : Fin 48) : val_main_v383 (F := Ideal) x0 x1 x2 x3 x7 x8 x9 x10 x11 x12 (ix3 o h w) = act (val_main_v366 (F := Ideal) x0 x1 x2 x3 x7 x8 x9 x10 (ix3 o h w)) (x11 (ix1 o)) (x12 (ix1 o)) :=
  act_at _ _ _ _ _ _ (ix3 o h w) ((val_main_v369_apply _).trans (by rw [val_main_v368_apply, val_main_v367_apply]; rfl))
    ((val_main_v372_apply _ _).trans ((val_main_v371_apply _ _).trans (congrArg _ (eq_ix1 _)))) ((val_main_v375_apply _ _).trans ((val_main_v374_apply _ _).trans (congrArg _ (eq_ix1 _))))
    (val_main_v379_apply _) (val_main_v381_apply _)

/-- The second branch, normalised and activated. -/
theorem act_b (o : Fin 48) : val_main_v403 (F := Ideal) x0 x4 x5 x6 (ix3 o h w) = act (val_main_v386 (F := Ideal) x0 x4 (ix3 o h w)) (x5 (ix1 o)) (x6 (ix1 o)) :=
  act_at _ _ _ _ _ _ (ix3 o h w) ((val_main_v389_apply _).trans (by rw [val_main_v388_apply, val_main_v387_apply]; rfl))
    ((val_main_v392_apply _ _).trans ((val_main_v391_apply _ _).trans (congrArg _ (eq_ix1 _)))) ((val_main_v395_apply _ _).trans ((val_main_v394_apply _ _).trans (congrArg _ (eq_ix1 _))))
    (val_main_v399_apply _) (val_main_v401_apply _)

/-- The output, normalised and activated. -/
theorem act_f (o : Fin 96) : val_main_v423 (F := Ideal) x0 x1 x2 x3 x4 x5 x6 x7 x8 x9 x10 x11 x12 x13 x14 x15 (ix3 o h w) = act (val_main_v406 (F := Ideal) x0 x1 x2 x3 x4 x5 x6 x7 x8 x9 x10 x11 x12 x13 (ix3 o h w)) (x14 (ix1 o)) (x15 (ix1 o)) :=
  act_at _ _ _ _ _ _ (ix3 o h w) ((val_main_v409_apply _).trans (by rw [val_main_v408_apply, val_main_v407_apply]; rfl))
    ((val_main_v412_apply _ _).trans ((val_main_v411_apply _ _).trans (congrArg _ (eq_ix1 _)))) ((val_main_v415_apply _ _).trans ((val_main_v414_apply _ _).trans (congrArg _ (eq_ix1 _))))
    (val_main_v419_apply _) (val_main_v421_apply _)

/-- A pointwise convolution over the stacked channels is one over the image's and one over the texture's. -/
theorem cat_sum (W : FVec Ideal S48x100 .f32) (o : Fin 48) (l : Fin 100 → S48x100.Idx) (r : Fin 100 → S100x56x56.Idx) (hl : ∀ k, l k = ix2 o k) (hr : ∀ k, r k = ix3 k h w) :
    ∑ k : Fin 100, W (l k) * val_main_v283 (F := Ideal) x0 (r k)
      = ∑ c : Fin 96, W (ix2 o (Fin.castAdd 4 c)) * imgc x0 c h.val w.val + ∑ c : Fin 4, W (ix2 o (Fin.natAdd 96 c)) * texc x0 c h.val w.val := by
  refine (Fin.sum_univ_add (a := 96) (b := 4) (fun k => W (l k) * val_main_v283 (F := Ideal) x0 (r k))).trans ?_
  refine congrArg₂ (· + ·) (Finset.sum_congr rfl fun c _ => ?_) (Finset.sum_congr rfl fun c _ => ?_)
  · show W (l (Fin.castAdd 4 c)) * val_main_v283 (F := Ideal) x0 (r (Fin.castAdd 4 c)) = _
    rw [hl, hr, cat_img]
  · show W (l (Fin.natAdd 96 c)) * val_main_v283 (F := Ideal) x0 (r (Fin.natAdd 96 c)) = _
    rw [hl, hr, cat_tex]

/-- The first branch. -/
theorem mix_a (o : Fin 48) : val_main_v302 (F := Ideal) x0 x1 x2 x3 (ix3 o h w) = mix (fun o c => val_main_v284 (F := Ideal) x1 (ix2 o c)) (fun o => x2 (ix1 o)) (fun o => x3 (ix1 o))
    (fun c => imgc x0 c h.val w.val) (fun r => texc x0 r h.val w.val) o := by
  rw [act_a]
  unfold mix
  refine congrArg (fun z => act z (x2 (ix1 o)) (x3 (ix1 o))) ?_
  rw [val_main_v285_apply]
  exact cat_sum x0 h w _ o _ _ (fun _ => eq_ix2 _) (fun _ => eq_ix3 _)

/-- The second branch. -/
theorem mix_b (o : Fin 48) : val_main_v403 (F := Ideal) x0 x4 x5 x6 (ix3 o h w) = mix (fun o c => val_main_v385 (F := Ideal) x4 (ix2 o c)) (fun o => x5 (ix1 o)) (fun o => x6 (ix1 o))
    (fun c => imgc x0 c h.val w.val) (fun r => texc x0 r h.val w.val) o := by
  rw [act_b]
  unfold mix
  refine congrArg (fun z => act z (x5 (ix1 o)) (x6 (ix1 o))) ?_
  rw [val_main_v386_apply]
  exact cat_sum x0 h w _ o _ _ (fun _ => eq_ix2 _) (fun _ => eq_ix3 _)

/-- The first branch at a pixel. -/
abbrev wideH (h w : ℕ) : Fin 48 → EReal :=
  mix (fun o c => val_main_v284 (F := Ideal) x1 (ix2 o c)) (fun o => x2 (ix1 o)) (fun o => x3 (ix1 o)) (fun c => imgc x0 c h w) (fun r => texc x0 r h w)

/-- The narrow channels at a pixel. -/
abbrev narM (i : Fin 24) (h w : ℕ) : EReal :=
  nar (fun k o => val_main_v303 (F := Ideal) x7 (ix2 k o)) (fun k => x8 (ix1 k)) (fun k => x9 (ix1 k)) (wideH x0 x1 x2 x3 h w) i

/-- The reference's narrow channels. -/
theorem nar_at (k : Fin 24) : val_main_v321 (F := Ideal) x0 x1 x2 x3 x7 x8 x9 (ix3 k h w) = narM x0 x1 x2 x3 x7 x8 x9 k h.val w.val := by
  rw [act_m]
  unfold narM nar
  refine congrArg (fun z => act z (x8 (ix1 k)) (x9 (ix1 k))) ?_
  rw [val_main_v304_apply]
  refine Finset.sum_congr rfl fun o _ => ?_
  exact congrArg₂ (· * ·) (congrArg (val_main_v303 (F := Ideal) x7) (eq_ix2 _)) ((congrArg (val_main_v302 (F := Ideal) x0 x1 x2 x3) (eq_ix3 _)).trans (mix_a x0 x1 x2 x3 h w o))

/-- They have a border of zeros. -/
theorem edge_at (i : Fin 24) (a b : Fin 58) : val_main_v322 (F := Ideal) x0 x1 x2 x3 x7 x8 x9 (ix3 i a b) = edge (narM x0 x1 x2 x3 x7 x8 x9) i a.val b.val := by
  unfold edge val_main_v322
  by_cases hb : 1 ≤ a.val ∧ a.val ≤ 56 ∧ 1 ≤ b.val ∧ b.val ≤ 56
  · rw [if_pos hb]
    refine (pad_apply_of_inside ![0, 1, 1] ![0, 1, 1] ![0, 0, 0] _ _ pads_S24x56x56_S24x58x58_000_110_110 h_S_ _
      (ix3 i (⟨a.val - 1, by omega⟩ : Fin 56) (⟨b.val - 1, by omega⟩ : Fin 56)) (fun q => match q with
      | ⟨0, _⟩ => by show i.val = 0 + i.val * (0 + 1); omega
      | ⟨1, _⟩ => by show a.val = 1 + (a.val - 1) * (0 + 1); omega
      | ⟨2, _⟩ => by show b.val = 1 + (b.val - 1) * (0 + 1); omega)).trans ?_
    exact nar_at x0 x1 x2 x3 x7 x8 x9 _ _ i
  · rw [if_neg hb]
    have hz : val_main_cst_65 (F := Ideal) (Shape.Idx.first h_S_) = 0 := Ideal.ofBits_zero_f32
    by_cases ha : 1 ≤ a.val ∧ a.val ≤ 56
    · refine (pad_apply_of_not_inside (s := S24x56x56) (t := S24x58x58) ![0, 1, 1] ![0, 1, 1] ![0, 0, 0] _ _ pads_S24x56x56_S24x58x58_000_110_110 h_S_ _ (2 : Fin 3) ?_).trans hz
      show ¬(1 ≤ b.val ∧ (b.val - 1) % (0 + 1) = 0 ∧ (b.val - 1) / (0 + 1) < 56)
      omega
    · refine (pad_apply_of_not_inside (s := S24x56x56) (t := S24x58x58) ![0, 1, 1] ![0, 1, 1] ![0, 0, 0] _ _ pads_S24x56x56_S24x58x58_000_110_110 h_S_ _ (1 : Fin 3) ?_).trans hz
      show ¬(1 ≤ a.val ∧ (a.val - 1) % (0 + 1) = 0 ∧ (a.val - 1) / (0 + 1) < 56)
      omega

/-- One tap of the three by three convolution. -/
abbrev tapE (j : Fin 9) (o : Fin 48) : EReal :=
  ∑ i : Fin 24, x10 (ix4 o i ⟨j.val / 3, by omega⟩ ⟨j.val % 3, by omega⟩) * edge (narM x0 x1 x2 x3 x7 x8 x9) i (h.val + j.val / 3) (w.val + j.val % 3)

/-- One tap's sum over the narrow channels, the weights read from row `j / 3` and column `j % 3` and the channels at an offset of as much. -/
theorem tap_sum (j : Fin 9) (o : Fin 48) (W : FVec Ideal S48x24 .f32) (X : FVec Ideal S24x56x56 .f32) (l : Fin 24 → S48x24.Idx) (r : Fin 24 → S24x56x56.Idx)
    (p : Fin 24 → S48x24x3x3.Idx) (q : Fin 24 → S24x58x58.Idx) (hl : ∀ i, W (l i) = x10 (p i)) (hr : ∀ i, X (r i) = val_main_v322 (F := Ideal) x0 x1 x2 x3 x7 x8 x9 (q i))
    (p0 : ∀ i, (p i 0).val = (o.val * 24 + i.val) / 24) (p1 : ∀ i, (p i 1).val = (o.val * 24 + i.val) / 1 % 24) (p2 : ∀ i, (p i 2).val = j.val / 3) (p3 : ∀ i, (p i 3).val = j.val % 3)
    (q0 : ∀ i, (q i 0).val = i.val) (q1 : ∀ i, (q i 1).val = h.val + j.val / 3) (q2 : ∀ i, (q i 2).val = w.val + j.val % 3) :
    ∑ i : Fin 24, W (l i) * X (r i) = tapE x0 x1 x2 x3 x7 x8 x9 x10 h w j o := by
  refine Finset.sum_congr rfl fun i _ => ?_
  have e1 : p i = ix4 o i ⟨j.val / 3, by omega⟩ ⟨j.val % 3, by omega⟩ := funext fun a => Fin.ext (match a with
    | ⟨0, _⟩ => (p0 i).trans (by show _ = o.val; omega)
    | ⟨1, _⟩ => (p1 i).trans (by show _ = i.val; omega)
    | ⟨2, _⟩ => p2 i
    | ⟨3, _⟩ => p3 i)
  have e2 : q i = ix3 i ⟨h.val + j.val / 3, by omega⟩ ⟨w.val + j.val % 3, by omega⟩ := funext fun a => Fin.ext (match a with
    | ⟨0, _⟩ => q0 i
    | ⟨1, _⟩ => q1 i
    | ⟨2, _⟩ => q2 i)
  rw [hl, hr, e1, e2, edge_at]

/-- Tap 0. -/
theorem tap_0 (o : Fin 48) : val_main_v326 (F := Ideal) x0 x1 x2 x3 x7 x8 x9 x10 (ix3 o h w) = tapE x0 x1 x2 x3 x7 x8 x9 x10 h w 0 o :=
  (val_main_v326_apply x0 x1 x2 x3 x7 x8 x9 x10 (ix3 o h w)).trans (tap_sum x0 x1 x2 x3 x7 x8 x9 x10 h w 0 o _ _ _ _ _ _ (fun _ => (val_main_v324_apply x10 _).trans (val_main_v323_apply x10 _))
    (fun _ => val_main_v325_apply x0 x1 x2 x3 x7 x8 x9 _) (fun _ => rfl) (fun _ => rfl) (fun _ => (rfl : 0 = 0 / 3)) (fun _ => (rfl : 0 = 0 % 3)) (fun _ => rfl) (fun _ => rfl) (fun _ => rfl))

/-- Tap 1. -/
theorem tap_1 (o : Fin 48) : val_main_v330 (F := Ideal) x0 x1 x2 x3 x7 x8 x9 x10 (ix3 o h w) = tapE x0 x1 x2 x3 x7 x8 x9 x10 h w 1 o :=
  (val_main_v330_apply x0 x1 x2 x3 x7 x8 x9 x10 (ix3 o h w)).trans (tap_sum x0 x1 x2 x3 x7 x8 x9 x10 h w 1 o _ _ _ _ _ _ (fun _ => (val_main_v328_apply x10 _).trans (val_main_v327_apply x10 _))
    (fun _ => val_main_v329_apply x0 x1 x2 x3 x7 x8 x9 _) (fun _ => rfl) (fun _ => rfl) (fun _ => (rfl : 0 = 1 / 3)) (fun _ => (rfl : 1 = 1 % 3)) (fun _ => rfl) (fun _ => rfl) (fun _ => Nat.add_comm _ _))

/-- Tap 2. -/
theorem tap_2 (o : Fin 48) : val_main_v335 (F := Ideal) x0 x1 x2 x3 x7 x8 x9 x10 (ix3 o h w) = tapE x0 x1 x2 x3 x7 x8 x9 x10 h w 2 o :=
  (val_main_v335_apply x0 x1 x2 x3 x7 x8 x9 x10 (ix3 o h w)).trans (tap_sum x0 x1 x2 x3 x7 x8 x9 x10 h w 2 o _ _ _ _ _ _ (fun _ => (val_main_v333_apply x10 _).trans (val_main_v332_apply x10 _))
    (fun _ => val_main_v334_apply x0 x1 x2 x3 x7 x8 x9 _) (fun _ => rfl) (fun _ => rfl) (fun _ => (rfl : 0 = 2 / 3)) (fun _ => (rfl : 2 = 2 % 3)) (fun _ => rfl) (fun _ => rfl) (fun _ => Nat.add_comm _ _))

/-- Tap 3. -/
theorem tap_3 (o : Fin 48) : val_main_v340 (F := Ideal) x0 x1 x2 x3 x7 x8 x9 x10 (ix3 o h w) = tapE x0 x1 x2 x3 x7 x8 x9 x10 h w 3 o :=
  (val_main_v340_apply x0 x1 x2 x3 x7 x8 x9 x10 (ix3 o h w)).trans (tap_sum x0 x1 x2 x3 x7 x8 x9 x10 h w 3 o _ _ _ _ _ _ (fun _ => (val_main_v338_apply x10 _).trans (val_main_v337_apply x10 _))
    (fun _ => val_main_v339_apply x0 x1 x2 x3 x7 x8 x9 _) (fun _ => rfl) (fun _ => rfl) (fun _ => (rfl : 1 = 3 / 3)) (fun _ => (rfl : 0 = 3 % 3)) (fun _ => rfl) (fun _ => Nat.add_comm _ _) (fun _ => rfl))

/-- Tap 4. -/
theorem tap_4 (o : Fin 48) : val_main_v345 (F := Ideal) x0 x1 x2 x3 x7 x8 x9 x10 (ix3 o h w) = tapE x0 x1 x2 x3 x7 x8 x9 x10 h w 4 o :=
  (val_main_v345_apply x0 x1 x2 x3 x7 x8 x9 x10 (ix3 o h w)).trans (tap_sum x0 x1 x2 x3 x7 x8 x9 x10 h w 4 o _ _ _ _ _ _ (fun _ => (val_main_v343_apply x10 _).trans (val_main_v342_apply x10 _))
    (fun _ => val_main_v344_apply x0 x1 x2 x3 x7 x8 x9 _) (fun _ => rfl) (fun _ => rfl) (fun _ => (rfl : 1 = 4 / 3)) (fun _ => (rfl : 1 = 4 % 3)) (fun _ => rfl) (fun _ => Nat.add_comm _ _) (fun _ => Nat.add_comm _ _))

/-- Tap 5. -/
theorem tap_5 (o : Fin 48) : val_main_v350 (F := Ideal) x0 x1 x2 x3 x7 x8 x9 x10 (ix3 o h w) = tapE x0 x1 x2 x3 x7 x8 x9 x10 h w 5 o :=
  (val_main_v350_apply x0 x1 x2 x3 x7 x8 x9 x10 (ix3 o h w)).trans (tap_sum x0 x1 x2 x3 x7 x8 x9 x10 h w 5 o _ _ _ _ _ _ (fun _ => (val_main_v348_apply x10 _).trans (val_main_v347_apply x10 _))
    (fun _ => val_main_v349_apply x0 x1 x2 x3 x7 x8 x9 _) (fun _ => rfl) (fun _ => rfl) (fun _ => (rfl : 1 = 5 / 3)) (fun _ => (rfl : 2 = 5 % 3)) (fun _ => rfl) (fun _ => Nat.add_comm _ _) (fun _ => Nat.add_comm _ _))

/-- Tap 6. -/
theorem tap_6 (o : Fin 48) : val_main_v355 (F := Ideal) x0 x1 x2 x3 x7 x8 x9 x10 (ix3 o h w) = tapE x0 x1 x2 x3 x7 x8 x9 x10 h w 6 o :=
  (val_main_v355_apply x0 x1 x2 x3 x7 x8 x9 x10 (ix3 o h w)).trans (tap_sum x0 x1 x2 x3 x7 x8 x9 x10 h w 6 o _ _ _ _ _ _ (fun _ => (val_main_v353_apply x10 _).trans (val_main_v352_apply x10 _))
    (fun _ => val_main_v354_apply x0 x1 x2 x3 x7 x8 x9 _) (fun _ => rfl) (fun _ => rfl) (fun _ => (rfl : 2 = 6 / 3)) (fun _ => (rfl : 0 = 6 % 3)) (fun _ => rfl) (fun _ => Nat.add_comm _ _) (fun _ => rfl))

/-- Tap 7. -/
theorem tap_7 (o : Fin 48) : val_main_v360 (F := Ideal) x0 x1 x2 x3 x7 x8 x9 x10 (ix3 o h w) = tapE x0 x1 x2 x3 x7 x8 x9 x10 h w 7 o :=
  (val_main_v360_apply x0 x1 x2 x3 x7 x8 x9 x10 (ix3 o h w)).trans (tap_sum x0 x1 x2 x3 x7 x8 x9 x10 h w 7 o _ _ _ _ _ _ (fun _ => (val_main_v358_apply x10 _).trans (val_main_v357_apply x10 _))
    (fun _ => val_main_v359_apply x0 x1 x2 x3 x7 x8 x9 _) (fun _ => rfl) (fun _ => rfl) (fun _ => (rfl : 2 = 7 / 3)) (fun _ => (rfl : 1 = 7 % 3)) (fun _ => rfl) (fun _ => Nat.add_comm _ _) (fun _ => Nat.add_comm _ _))

/-- Tap 8. -/
theorem tap_8 (o : Fin 48) : val_main_v365 (F := Ideal) x0 x1 x2 x3 x7 x8 x9 x10 (ix3 o h w) = tapE x0 x1 x2 x3 x7 x8 x9 x10 h w 8 o :=
  (val_main_v365_apply x0 x1 x2 x3 x7 x8 x9 x10 (ix3 o h w)).trans (tap_sum x0 x1 x2 x3 x7 x8 x9 x10 h w 8 o _ _ _ _ _ _ (fun _ => (val_main_v363_apply x10 _).trans (val_main_v362_apply x10 _))
    (fun _ => val_main_v364_apply x0 x1 x2 x3 x7 x8 x9 _) (fun _ => rfl) (fun _ => rfl) (fun _ => (rfl : 2 = 8 / 3)) (fun _ => (rfl : 2 = 8 % 3)) (fun _ => rfl) (fun _ => Nat.add_comm _ _) (fun _ => Nat.add_comm _ _))

/-- The nine taps added. -/
theorem taps_at (o : Fin 48) : val_main_v366 (F := Ideal) x0 x1 x2 x3 x7 x8 x9 x10 (ix3 o h w) = ∑ j : Fin 9, tapE x0 x1 x2 x3 x7 x8 x9 x10 h w j o := by
  rw [Fin.sum_univ_castSucc, Fin.sum_univ_eight, val_main_v366_apply, val_main_v361_apply, val_main_v356_apply, val_main_v351_apply, val_main_v346_apply, val_main_v341_apply,
    val_main_v336_apply, val_main_v331_apply, tap_0, tap_1, tap_2, tap_3, tap_4, tap_5, tap_6, tap_7, tap_8]
  rfl

/-- The wide channels added to the first branch. -/
theorem res_at (o : Fin 48) : val_main_v384 (F := Ideal) x0 x1 x2 x3 x7 x8 x9 x10 x11 x12 (ix3 o h w) = wideH x0 x1 x2 x3 h.val w.val o
    + wid (fun o i k => x10 (ix4 o i ⟨k.val / 3, by omega⟩ ⟨k.val % 3, by omega⟩)) (fun o => x11 (ix1 o)) (fun o => x12 (ix1 o))
        (fun k i => edge (narM x0 x1 x2 x3 x7 x8 x9) i (h.val + k.val / 3) (w.val + k.val % 3)) o := by
  rw [val_main_v384_apply, mix_a, act_n, taps_at]
  rfl

/-- The stacked branches: the first. -/
theorem out_a (i : Fin 48) : val_main_v404 (F := Ideal) x0 x1 x2 x3 x4 x5 x6 x7 x8 x9 x10 x11 x12 (ix3 (Fin.castAdd 48 i) h w) = val_main_v384 (F := Ideal) x0 x1 x2 x3 x7 x8 x9 x10 x11 x12 (ix3 i h w) :=
  stack_fst _ _ _ i _ h w rfl

/-- The stacked branches: the second. -/
theorem out_b (i : Fin 48) : val_main_v404 (F := Ideal) x0 x1 x2 x3 x4 x5 x6 x7 x8 x9 x10 x11 x12 (ix3 (Fin.natAdd 48 i) h w) = val_main_v403 (F := Ideal) x0 x4 x5 x6 (ix3 i h w) :=
  stack_snd _ _ _ i _ h w rfl

/-- The reference's result, entry by entry. -/
theorem ref_at (o : Fin 96) : val_main_v424 (F := Ideal) x0 x1 x2 x3 x4 x5 x6 x7 x8 x9 x10 x11 x12 x13 x14 x15 (ix4 (0 : Fin 1) o h w) = outc x0 x1 x2 x3 x4 x5 x6 x7 x8 x9 x10 x11 x12 x13 x14 x15 o h.val w.val := by
  rw [val_main_v424_apply]
  refine (congrArg (val_main_v423 (F := Ideal) x0 x1 x2 x3 x4 x5 x6 x7 x8 x9 x10 x11 x12 x13 x14 x15) (eq_ix3 _)).trans ((act_f x0 x1 x2 x3 x4 x5 x6 x7 x8 x9 x10 x11 x12 x13 x14 x15 h w o).trans ?_)
  unfold outc net fin
  refine congrArg (fun z => act z (x14 (ix1 o)) (x15 (ix1 o))) ?_
  rw [val_main_v406_apply]
  refine (Fin.sum_univ_add (a := 48) (b := 48) (fun k => val_main_v405 (F := Ideal) x13 (lidx_main_v406 (ix3 o h w) k) * val_main_v404 (F := Ideal) x0 x1 x2 x3 x4 x5 x6 x7 x8 x9 x10 x11 x12 (ridx_main_v406 (ix3 o h w) k))).trans ?_
  refine congrArg₂ (· + ·) (Finset.sum_congr rfl fun i _ => ?_) (Finset.sum_congr rfl fun i _ => ?_)
  · exact congrArg₂ (· * ·) (congrArg (val_main_v405 (F := Ideal) x13) (eq_ix2 _)) ((congrArg (val_main_v404 (F := Ideal) x0 x1 x2 x3 x4 x5 x6 x7 x8 x9 x10 x11 x12) (eq_ix3 _)).trans ((out_a x0 x1 x2 x3 x4 x5 x6 x7 x8 x9 x10 x11 x12 h w i).trans (res_at x0 x1 x2 x3 x7 x8 x9 x10 x11 x12 h w i)))
  · exact congrArg₂ (· * ·) (congrArg (val_main_v405 (F := Ideal) x13) (eq_ix2 _)) ((congrArg (val_main_v404 (F := Ideal) x0 x1 x2 x3 x4 x5 x6 x7 x8 x9 x10 x11 x12) (eq_ix3 _)).trans ((out_b x0 x1 x2 x3 x4 x5 x6 x7 x8 x9 x10 x11 x12 h w i).trans (mix_b x0 x4 x5 x6 h w i)))

end Cert.Glcm
-- ==== Proof.Glcm.Value.lean ====
module

public import proofs.«01_k».proof.Defs
public import proofs.«01_k».proof.Proof.Glcm.KerRun
public import proofs.«01_k».proof.Proof.Glcm.RefNet
public import proofs.«01_k».proof.Proof.Gen.ReferenceIdeal.Run

/-! The kernel's result and the reference's are one array. -/

@[expose] public section

noncomputable section

namespace Cert.KernelIdeal.Glcm

open Idealize.ShloMosaic Idealize.ShloMosaic.TcCoe Idealize.ShloMosaic.ValueIdx Idealize.SL.Sem
open Cert.KernelIdeal.Gen Cert.Glcm

/-- The array both programs end with, over the kernel's arguments. -/
def result (m : (ℓ : Loc nD τ sig) → Buf (Elt Ideal) ℓ) (c : Dev nD) : (⟨S1x96x56x56, .f32⟩ : BufTy).Contents (Elt Ideal) :=
  Pipeline.afterTail₀ cfgs (dats (F := Ideal) m) 0 (V0 m) [hostOps1] c main_v49

/-- The kernel ends with that array in its result buffer. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD, r.2.mem ((c.tc : Thread nD τ).loc main_v49) = result m c) :=
  (θ_run defs _ _).mono (fun _ h c => (h c).2 main_v49 (by decide)) (run_main (F := Ideal) m ρ)

/-- The reference's array is the same where the arguments are. -/
theorem reference_eq (m : (ℓ : Loc nD τ sig) → Buf (Elt Ideal) ℓ) (c : Dev nD) :
    Cert.ReferenceIdeal.Read.val_main_v424 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) = result m c := by
  funext i
  have e : i = ix4 (0 : Fin 1) (i 1) (i 2) (i 3) := (eq_ix4 i).trans (congrArg (fun z => ix4 z (i 1) (i 2) (i 3)) (Subsingleton.elim (α := Fin 1) (i 0) 0))
  rw [e]
  exact (ref_at _ _ _ _ _ _ _ _ _ _ _ _ _ _ _ _ _ _ _).trans (tail_at m c _ _ _).symm

/-- From equal arguments the kernel and the reference end with equal results and their arguments unchanged. -/
theorem algebraic : Cert.algebraic_KernelIdeal_ReferenceIdeal := by
  intro m g m' g' _ hm
  refine ⟨result m, ?_, ?_⟩
  · exact (θ_run defs _ _).mono (fun r h c => ⟨h.1 c, h.2 c⟩) (θ_run_and (kernel_run m g) (unchanged (F := Ideal) m g))
  · refine (θ_run Cert.ReferenceIdeal.defs _ _).mono (fun r h c => ⟨(h c).1.trans ?_, (h c).2⟩) (Cert.ReferenceIdeal.Value.run (F := Ideal) m' g')
    refine (Cert.ReferenceIdeal.Read.val_main_v424_eq (F := Ideal) (StableHlo.launchContents m' c)).trans ?_
    refine Eq.trans ?_ (reference_eq m c)
    obtain ⟨h0, h1, h2, h3, h4, h5, h6, h7, h8, h9, h10, h11, h12, h13, h14, h15⟩ := hm c
    have e : ∀ {a0 a1 a2 a3 a4 a5 a6 a7 a8 a9 a10 a11 a12 a13 a14 a15 b0 b1 b2 b3 b4 b5 b6 b7 b8 b9 b10 b11 b12 b13 b14 b15}, a0 = b0 → a1 = b1 → a2 = b2 → a3 = b3 → a4 = b4 → a5 = b5 → a6 = b6 → a7 = b7 → a8 = b8 → a9 = b9 → a10 = b10 → a11 = b11 → a12 = b12 → a13 = b13 → a14 = b14 → a15 = b15 →
        Cert.ReferenceIdeal.Read.val_main_v424 (F := Ideal) a0 a1 a2 a3 a4 a5 a6 a7 a8 a9 a10 a11 a12 a13 a14 a15 = Cert.ReferenceIdeal.Read.val_main_v424 (F := Ideal) b0 b1 b2 b3 b4 b5 b6 b7 b8 b9 b10 b11 b12 b13 b14 b15 := by
      intros
      subst_vars
      rfl
    exact e h0 h1 h2 h3 h4 h5 h6 h7 h8 h9 h10 h11 h12 h13 h14 h15

end Cert.KernelIdeal.Glcm
-- ==== Proof.lean ====
/- The certificate's claims, put together. -/
module

public import proofs.«01_k».proof.Defs
public import proofs.«01_k».proof.Proof.Frames.KernelFrame
public import proofs.«01_k».proof.Proof.Frames.KernelIdealFrame
public import proofs.«01_k».proof.Proof.Gen.ReferenceIdeal.Run
public import proofs.«01_k».proof.Proof.Gen.ReferenceIdeal.Read
public import proofs.«01_k».proof.Proof.Glcm.Value
public import Idealize.ShloMosaic.Adequacy
public import Idealize.ShloMosaic.Init

@[expose] public section

noncomputable section

namespace Cert.Proof

open Idealize.ShloMosaic Idealize.SL.Sem

/-- The reference ends with its arguments unchanged, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each named constant is the value of its float's name. -/
theorem preserves : Cert.preserves_Kernel_KernelIdeal :=
  ⟨IdealRules.named_const.statement Cert.KernelIdeal.κ "inv20" .f32 0x3D4CCCCD#32 _ rfl,
    IdealRules.named_const.statement Cert.KernelIdeal.κ "neg_mean" .f32 0xBA088889#32 _ rfl,
    IdealRules.named_const.statement Cert.KernelIdeal.κ "mean" .f32 0x3A088889#32 _ rfl,
    IdealRules.named_const.statement Cert.KernelIdeal.κ "mean2" .f32 0x37DA740E#32 _ rfl⟩

/-- The claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves,
  Cert.KernelIdeal.Glcm.algebraic⟩

end Cert.Proof

end
